-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.Statement Cert.KernelIdeal.S2x640 Cert.KernelIdeal.S1x640
  ∧ IdealRules.bf16_pair.SelectZeroStatement Cert.KernelIdeal.S1x640

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v0_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal) (hPre_rows_in_range := hPre_rows_in_range)
    ∧ preserves_Kernel_KernelIdeal
    ∧ algebraic_KernelIdeal_ReferenceIdeal (hKernelIdeal := hKernelIdeal) (hReferenceIdeal := hReferenceIdeal) (hPre_rows_in_range := hPre_rows_in_range)
-- ==== Pre_rows_in_range.lean ====
abbrev S8192x5120 : Shape := ⟨2, ![8192, 5120]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S8192x5120 .bf16) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 8192#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S8192x5120 : Shape := ⟨2, ![8192, 5120]⟩
abbrev S16384 : Shape := ⟨1, ![16384]⟩
abbrev S8192x40 : Shape := ⟨2, ![8192, 40]⟩
abbrev S256x5120 : Shape := ⟨2, ![256, 5120]⟩
abbrev S256x40 : Shape := ⟨2, ![256, 40]⟩
abbrev S256x128 : Shape := ⟨2, ![256, 128]⟩
abbrev S256 : Shape := ⟨1, ![256]⟩
abbrev S256x1 : Shape := ⟨2, ![256, 1]⟩
abbrev S16384x5120 : Shape := ⟨2, ![16384, 5120]⟩
abbrev S8192x640 : Shape := ⟨2, ![8192, 640]⟩
abbrev S512x640 : Shape := ⟨2, ![512, 640]⟩
abbrev S1 : Shape := ⟨1, ![1]⟩
abbrev S4096x640 : Shape := ⟨2, ![4096, 640]⟩
abbrev S1x640 : Shape := ⟨2, ![1, 640]⟩
abbrev S2x640 : Shape := ⟨2, ![2, 640]⟩
abbrev S256x640 : Shape := ⟨2, ![256, 640]⟩

abbrev nBuf : Space → Nat
  | .hbm => 6
  | .vmem => 14
  | .smem => 1
  | _ => 0

abbrev bufTy : (tb : Table) → Fin (tcTables nBuf tb) → BufTy
  | .hbm, ⟨0, _⟩ => ⟨S8192x5120, .bf16⟩
  | .hbm, ⟨1, _⟩ => ⟨S8192x5120, .i8⟩
  | .hbm, ⟨2, _⟩ => ⟨S8192x40, .f32⟩
  | .hbm, ⟨3, _⟩ => ⟨S8192x40, .f32⟩
  | .hbm, ⟨4, _⟩ => ⟨S8192x5120, .bf16⟩
  | .hbm, ⟨5, _⟩ => ⟨S16384x5120, .bf16⟩
  | .local _ .vmem, ⟨0, _⟩ => ⟨S256x5120, .bf16⟩
  | .local _ .vmem, ⟨1, _⟩ => ⟨S256x5120, .bf16⟩
  | .local _ .vmem, ⟨2, _⟩ => ⟨S256x5120, .i8⟩
  | .local _ .vmem, ⟨3, _⟩ => ⟨S256x5120, .i8⟩
  | .local _ .vmem, ⟨4, _⟩ => ⟨S256x40, .f32⟩
  | .local _ .vmem, ⟨5, _⟩ => ⟨S256x40, .f32⟩
  | .local _ .vmem, ⟨6, _⟩ => ⟨S256x40, .f32⟩
  | .local _ .vmem, ⟨7, _⟩ => ⟨S256x40, .f32⟩
  | .local _ .vmem, ⟨8, _⟩ => ⟨S256x5120, .bf16⟩
  | .local _ .vmem, ⟨9, _⟩ => ⟨S256x5120, .bf16⟩
  | .local _ .vmem, ⟨10, _⟩ => ⟨S8192x640, .bf16⟩
  | .local _ .vmem, ⟨11, _⟩ => ⟨S8192x640, .bf16⟩
  | .local _ .vmem, ⟨12, _⟩ => ⟨S512x640, .bf16⟩
  | .local _ .vmem, ⟨13, _⟩ => ⟨S512x640, .bf16⟩
  | .local _ .smem, ⟨0, _⟩ => ⟨S16384, .i32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v1 : Ref sig .tc := ⟨.hbm, 5, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 32], ![false, false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32 : BitVec 32 := 0#32
  let c256_i32 : BitVec 32 := 256#32
  let v1 : BitVec 32 := Scalar.addi c0_i32 c256_i32
  let c1_i32 : BitVec 32 := 1#32
  ⟨c0_i32, v1, c1_i32⟩
def k1_off1 (i : grid1.Coords) (k1_t1 : Fin k1_t1_loop.trips) : Fin 1 → Nat :=
  let arg1 : BitVec 32 := BitVec.ofNat 32 (i 1).val
  let c512_i32 : BitVec 32 := 512#32
  let v0 : BitVec 32 := Scalar.muli arg1 c512_i32
  let c2_i32 : BitVec 32 := 2#32
  let c0_i32 : BitVec 32 := 0#32
  let c1_i32 : BitVec 32 := 1#32
  let arg5 : BitVec 32 := Scf.iv c0_i32 c1_i32 k1_t1
  let v2 : BitVec 32 := Scalar.muli c2_i32 arg5
  let v3 : BitVec 32 := Scalar.addi v0 v2
  let v4 : Index := Scalar.indexCast v3
  ![v4.toNat]
def k1_off2 (i : grid1.Coords) (k1_t1 : Fin k1_t1_loop.trips) : Fin 1 → Nat :=
  let arg1 : BitVec 32 := BitVec.ofNat 32 (i 1).val
  let c512_i32 : BitVec 32 := 512#32
  let v0 : BitVec 32 := Scalar.muli arg1 c512_i32
  let c2_i32_1 : BitVec 32 := 2#32
  let c0_i32 : BitVec 32 := 0#32
  let c1_i32 : BitVec 32 := 1#32
  let arg5 : BitVec 32 := Scf.iv c0_i32 c1_i32 k1_t1
  let v6 : BitVec 32 := Scalar.muli c2_i32_1 arg5
  let v7 : BitVec 32 := Scalar.addi v0 v6
  let c1_i32_2 : BitVec 32 := 1#32
  let v8 : BitVec 32 := Scalar.addi v7 c1_i32_2
  let v9 : Index := Scalar.indexCast v8
  ![v9.toNat]
def k1_off3 (v5 : BitVec 32) : Fin 2 → Nat :=
  let c1_i32_3 : BitVec 32 := 1#32
  let v11 : BitVec 32 := Scalar.shrsi v5 c1_i32_3
  let v13 : Index := Scalar.indexCast v11
  let c0 : Index := 0#32
  ![Nat.mul 2 v13.toNat, 0]

def k1_chk1 (v5 : BitVec 32) : Prop :=
  (∀ a, (k1_off3 v5) a + S2x640.size a ≤ S8192x640.size a)
theorem k1_off3_inb : ∀ (v5 : BitVec 32) (k1_hw1 : k1_chk1 v5), ∀ a, (k1_off3 v5) a + S2x640.size a ≤ S8192x640.size a := fun v5 k1_hw1 => k1_hw1

def k1_off4 (v10 : BitVec 32) : Fin 2 → Nat :=
  let c1_i32_6 : BitVec 32 := 1#32
  let v23 : BitVec 32 := Scalar.shrsi v10 c1_i32_6
  let v25 : Index := Scalar.indexCast v23
  let c0_7 : Index := 0#32
  ![Nat.mul 2 v25.toNat, 0]

def k1_chk2 (v10 : BitVec 32) : Prop :=
  (∀ a, (k1_off4 v10) a + S2x640.size a ≤ S8192x640.size a)
theorem k1_off4_inb : ∀ (v10 : BitVec 32) (k1_hw2 : k1_chk2 v10), ∀ a, (k1_off4 v10) a + S2x640.size a ≤ S8192x640.size a := fun v10 k1_hw2 => k1_hw2

def k1_off5 (k1_t1 : Fin k1_t1_loop.trips) : Fin 2 → Nat :=
  let c0_i32 : BitVec 32 := 0#32
  let c1_i32 : BitVec 32 := 1#32
  let arg5 : BitVec 32 := Scf.iv c0_i32 c1_i32 k1_t1
  let v37 : Index := Scalar.indexCast arg5
  let c0_12 : Index := 0#32
  ![Nat.mul 2 v37.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S8192x640 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== KernelIdeal.lean ====
variable {F : FTy → Type} [FloatOps F]
-- ==== ReferenceIdeal.lean ====
abbrev S8192x5120 : Shape := ⟨2, ![8192, 5120]⟩
abbrev S16384 : Shape := ⟨1, ![16384]⟩
abbrev S_ : Shape := ⟨0, ![]⟩
abbrev S8192x40x128 : Shape := ⟨3, ![8192, 40, 128]⟩
abbrev S8192x40 : Shape := ⟨2, ![8192, 40]⟩
abbrev S8192x40x1 : Shape := ⟨3, ![8192, 40, 1]⟩
abbrev S16384x1 : Shape := ⟨2, ![16384, 1]⟩
abbrev S1 : Shape := ⟨1, ![1]⟩
abbrev S1x1 : Shape := ⟨2, ![1, 1]⟩
abbrev S16384x5120 : Shape := ⟨2, ![16384, 5120]⟩

abbrev nBuf : Space → Nat
  | .hbm => 147
  | .vmem => 0
  | .smem => 0
  | _ => 0

abbrev hbmTy0_0 (i : Nat) : BufTy := match i % 128 with
  | 0 => ⟨S8192x5120, .bf16⟩
  | 1 => ⟨S16384, .i32⟩
  | 2 => ⟨S_, .f32⟩
  | 3 => ⟨S8192x5120, .f32⟩
  | 4 => ⟨S8192x40x128, .f32⟩
  | 5 => ⟨S_, .f32⟩
  | 6 => ⟨S8192x40x128, .f32⟩
  | 7 => ⟨S8192x40x128, .i1⟩
  | 8 => ⟨S8192x40x128, .f32⟩
  | 9 => ⟨S_, .f32⟩
  | 10 => ⟨S_, .f32⟩
  | 11 => ⟨S8192x40x128, .f32⟩
  | 12 => ⟨S8192x40x128, .f32⟩
  | 13 => ⟨S8192x40x128, .f32⟩
  | 14 => ⟨S_, .i1⟩
  | 15 => ⟨S8192x40, .i1⟩
  | 16 => ⟨S_, .f32⟩
  | 17 => ⟨S_, .f32⟩
  | 18 => ⟨S8192x40x128, .f32⟩
  | 19 => ⟨S8192x40x128, .f32⟩
  | 20 => ⟨S_, .f32⟩
  | 21 => ⟨S8192x40, .f32⟩
  | 22 => ⟨S_, .f32⟩
  | 23 => ⟨S_, .f32⟩
  | 24 => ⟨S8192x40x128, .f32⟩
  | 25 => ⟨S8192x40x128, .f32⟩
  | 26 => ⟨S_, .f32⟩
  | 27 => ⟨S8192x40, .f32⟩
  | 28 => ⟨S_, .f32⟩
  | 29 => ⟨S_, .f32⟩
  | 30 => ⟨S8192x40, .f32⟩
  | 31 => ⟨S8192x40, .f32⟩
  | 32 => ⟨S8192x40, .f32⟩
  | 33 => ⟨S8192x40, .f32⟩
  | 34 => ⟨S8192x40, .f32⟩
  | 35 => ⟨S_, .f32⟩
  | 36 => ⟨S_, .f32⟩
  | 37 => ⟨S8192x40, .f32⟩
  | 38 => ⟨S8192x40, .f32⟩
  | 39 => ⟨S8192x40, .f32⟩
  | 40 => ⟨S_, .f32⟩
  | 41 => ⟨S8192x40, .f32⟩
  | 42 => ⟨S8192x40, .i1⟩
  | 43 => ⟨S_, .f32⟩
  | 44 => ⟨S_, .f32⟩
  | 45 => ⟨S8192x40, .f32⟩
  | 46 => ⟨S8192x40, .f32⟩
  | 47 => ⟨S_, .f32⟩
  | 48 => ⟨S8192x40, .f32⟩
  | 49 => ⟨S8192x40, .f32⟩
  | 50 => ⟨S_, .f32⟩
  | 51 => ⟨S_, .f32⟩
  | 52 => ⟨S8192x40, .f32⟩
  | 53 => ⟨S8192x40, .f32⟩
  | 54 => ⟨S8192x40x1, .f32⟩
  | 55 => ⟨S8192x40x128, .f32⟩
  | 56 => ⟨S8192x40x128, .f32⟩
  | 57 => ⟨S8192x40x1, .f32⟩
  | 58 => ⟨S8192x40x128, .f32⟩
  | 59 => ⟨S8192x40x128, .f32⟩
  | 60 => ⟨S8192x40x128, .f32⟩
  | 61 => ⟨S_, .i32⟩
  | 62 => ⟨S_, .i32⟩
  | 63 => ⟨S_, .f32⟩
  | 64 => ⟨S8192x40x128, .f32⟩
  | 65 => ⟨S8192x40x128, .f32⟩
  | 66 => ⟨S_, .f32⟩
  | 67 => ⟨S8192x40x128, .f32⟩
  | 68 => ⟨S8192x40x128, .f32⟩
  | 69 => ⟨S8192x40x128, .i32⟩
  | 70 => ⟨S_, .i32⟩
  | 71 => ⟨S8192x40x128, .i32⟩
  | 72 => ⟨S8192x40x128, .i32⟩
  | 73 => ⟨S_, .f32⟩
  | 74 => ⟨S8192x40x128, .f32⟩
  | 75 => ⟨S8192x40x128, .i1⟩
  | 76 => ⟨S8192x40x128, .i32⟩
  | 77 => ⟨S_, .i32⟩
  | 78 => ⟨S8192x40x128, .i32⟩
  | 79 => ⟨S8192x40x128, .i32⟩
  | 80 => ⟨S8192x40x128, .i32⟩
  | 81 => ⟨S_, .i32⟩
  | 82 => ⟨S_, .i32⟩
  | 83 => ⟨S8192x40x128, .i32⟩
  | 84 => ⟨S8192x40x128, .i32⟩
  | 85 => ⟨S8192x40x128, .i8⟩
  | 86 => ⟨S8192x5120, .i8⟩
  | 87 => ⟨S8192x40x128, .i8⟩
  | 88 => ⟨S8192x40x128, .i32⟩
  | 89 => ⟨S_, .i32⟩
  | 90 => ⟨S8192x40x128, .i32⟩
  | 91 => ⟨S8192x40x128, .i32⟩
  | 92 => ⟨S_, .i32⟩
  | 93 => ⟨S8192x40x128, .i32⟩
  | 94 => ⟨S8192x40x128, .i32⟩
  | 95 => ⟨S8192x40, .f32⟩
  | 96 => ⟨S_, .f32⟩
  | 97 => ⟨S8192x40, .f32⟩
  | 98 => ⟨S8192x40, .f32⟩
  | 99 => ⟨S8192x40x1, .f32⟩
  | 100 => ⟨S8192x40x1, .f32⟩
  | 101 => ⟨S_, .i32⟩
  | 102 => ⟨S8192x40x128, .i32⟩
  | 103 => ⟨S8192x40x128, .i32⟩
  | 104 => ⟨S8192x40x128, .f32⟩
  | 105 => ⟨S8192x40x128, .f32⟩
  | 106 => ⟨S8192x40x128, .f32⟩
  | 107 => ⟨S8192x40x128, .f32⟩
  | 108 => ⟨S8192x40x128, .f32⟩
  | 109 => ⟨S8192x40x128, .f32⟩
  | 110 => ⟨S_, .i32⟩
  | 111 => ⟨S8192x40x128, .i32⟩
  | 112 => ⟨S8192x40x128, .i1⟩
  | 113 => ⟨S_, .i32⟩
  | 114 => ⟨S8192x40x128, .i32⟩
  | 115 => ⟨S8192x40x128, .i1⟩
  | 116 => ⟨S8192x40x128, .f32⟩
  | 117 => ⟨S8192x40x128, .f32⟩
  | 118 => ⟨S_, .f32⟩
  | 119 => ⟨S_, .f32⟩
  | 120 => ⟨S8192x40x128, .f32⟩
  | 121 => ⟨S8192x40x128, .f32⟩
  | 122 => ⟨S8192x5120, .f32⟩
  | 123 => ⟨S8192x5120, .bf16⟩
  | 124 => ⟨S_, .i32⟩
  | 125 => ⟨S16384, .i32⟩
  | 126 => ⟨S16384, .i1⟩
  | 127 => ⟨S_, .i32⟩
  | _ => ⟨S8192x5120, .bf16⟩

abbrev hbmTy0_1 (i : Nat) : BufTy := match i % 128 with
  | 0 => ⟨S16384, .i32⟩
  | 1 => ⟨S16384, .i32⟩
  | 2 => ⟨S16384, .i32⟩
  | 3 => ⟨S16384x1, .i32⟩
  | 4 => ⟨S1, .i32⟩
  | 5 => ⟨S_, .i32⟩
  | 6 => ⟨S16384x1, .i32⟩
  | 7 => ⟨S16384x1, .i1⟩
  | 8 => ⟨S1x1, .i32⟩
  | 9 => ⟨S16384x1, .i32⟩
  | 10 => ⟨S16384x1, .i1⟩
  | 11 => ⟨S16384x1, .i1⟩
  | 12 => ⟨S_, .i1⟩
  | 13 => ⟨S16384, .i1⟩
  | 14 => ⟨S16384x5120, .bf16⟩
  | 15 => ⟨S16384x5120, .i1⟩
  | 16 => ⟨S_, .bf16⟩
  | 17 => ⟨S16384x5120, .bf16⟩
  | 18 => ⟨S16384x5120, .bf16⟩
  | _ => ⟨S8192x5120, .bf16⟩

abbrev hbmTy (i : Nat) : BufTy := match i / 128 with
  | 0 => hbmTy0_0 i
  | 1 => hbmTy0_1 i
  | _ => ⟨S8192x5120, .bf16⟩

abbrev bufTy : (tb : Table) → Fin (tcTables nBuf tb) → BufTy
  | .hbm, ⟨i, _⟩ => hbmTy i
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_cst_4 : Ref sig .tc := ⟨.hbm, 22, rfl⟩
abbrev main_call2_v0 : Ref sig .tc := ⟨.hbm, 23, rfl⟩
abbrev main_call2_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_cst_6 : Ref sig .tc := ⟨.hbm, 28, rfl⟩
abbrev main_call3_v0 : Ref sig .tc := ⟨.hbm, 29, rfl⟩
abbrev main_call3_v1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_call4_v0 : Ref sig .tc := ⟨.hbm, 36, rfl⟩
abbrev main_call4_v1 : Ref sig .tc := ⟨.hbm, 37, rfl⟩
abbrev main_v16 : Ref sig .tc := ⟨.hbm, 38, rfl⟩
abbrev main_v17 : Ref sig .tc := ⟨.hbm, 39, rfl⟩
abbrev main_cst_8 : Ref sig .tc := ⟨.hbm, 40, rfl⟩
abbrev main_v18 : Ref sig .tc := ⟨.hbm, 41, rfl⟩
abbrev main_v19 : Ref sig .tc := ⟨.hbm, 42, rfl⟩
abbrev main_cst_9 : Ref sig .tc := ⟨.hbm, 43, rfl⟩
abbrev main_call5_v0 : Ref sig .tc := ⟨.hbm, 44, rfl⟩
abbrev main_call5_v1 : Ref sig .tc := ⟨.hbm, 45, rfl⟩
abbrev main_v20 : Ref sig .tc := ⟨.hbm, 46, rfl⟩
abbrev main_cst_10 : Ref sig .tc := ⟨.hbm, 47, rfl⟩
abbrev main_v21 : Ref sig .tc := ⟨.hbm, 48, rfl⟩
abbrev main_v22 : Ref sig .tc := ⟨.hbm, 49, rfl⟩
abbrev main_cst_11 : Ref sig .tc := ⟨.hbm, 50, rfl⟩
abbrev main_call6_v0 : Ref sig .tc := ⟨.hbm, 51, rfl⟩
abbrev main_call6_v1 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_12 : Ref sig .tc := ⟨.hbm, 61, rfl⟩
abbrev main_c_13 : Ref sig .tc := ⟨.hbm, 62, rfl⟩
abbrev main_call8_v0 : Ref sig .tc := ⟨.hbm, 63, rfl⟩
abbrev main_call8_v1 : Ref sig .tc := ⟨.hbm, 64, rfl⟩
abbrev main_call8_v2 : Ref sig .tc := ⟨.hbm, 65, rfl⟩
abbrev main_call8_v3 : Ref sig .tc := ⟨.hbm, 66, rfl⟩
abbrev main_call8_v4 : Ref sig .tc := ⟨.hbm, 67, rfl⟩
abbrev main_v31 : Ref sig .tc := ⟨.hbm, 68, rfl⟩
abbrev main_v32 : Ref sig .tc := ⟨.hbm, 69, rfl⟩
abbrev main_c_14 : Ref sig .tc := ⟨.hbm, 70, rfl⟩
abbrev main_v33 : Ref sig .tc := ⟨.hbm, 71, rfl⟩
abbrev main_v34 : Ref sig .tc := ⟨.hbm, 72, rfl⟩
abbrev main_cst_15 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_c_16 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_c_17 : Ref sig .tc := ⟨.hbm, 81, rfl⟩
abbrev main_call9_v0 : Ref sig .tc := ⟨.hbm, 82, rfl⟩
abbrev main_call9_v1 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_c_18 : Ref sig .tc := ⟨.hbm, 89, rfl⟩
abbrev main_v46 : Ref sig .tc := ⟨.hbm, 90, rfl⟩
abbrev main_v47 : Ref sig .tc := ⟨.hbm, 91, rfl⟩
abbrev main_c_19 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_20 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_21 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_c_22 : Ref sig .tc := ⟨.hbm, 110, rfl⟩
abbrev main_v63 : Ref sig .tc := ⟨.hbm, 111, rfl⟩
abbrev main_v64 : Ref sig .tc := ⟨.hbm, 112, rfl⟩
abbrev main_c_23 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_24 : Ref sig .tc := ⟨.hbm, 118, rfl⟩
abbrev main_call11_v0 : Ref sig .tc := ⟨.hbm, 119, rfl⟩
abbrev main_call11_v1 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_call12_c : Ref sig .tc := ⟨.hbm, 124, rfl⟩
abbrev main_call12_v0 : Ref sig .tc := ⟨.hbm, 125, rfl⟩
abbrev main_call12_v1 : Ref sig .tc := ⟨.hbm, 126, rfl⟩
abbrev main_call12_c_0 : Ref sig .tc := ⟨.hbm, 127, rfl⟩
abbrev main_call12_v2 : Ref sig .tc := ⟨.hbm, 128, rfl⟩
abbrev main_call12_v3 : Ref sig .tc := ⟨.hbm, 129, rfl⟩
abbrev main_call12_v4 : Ref sig .tc := ⟨.hbm, 130, rfl⟩
abbrev main_call12_v5 : Ref sig .tc := ⟨.hbm, 131, rfl⟩
abbrev main_call12_c_1 : Ref sig .tc := ⟨.hbm, 132, rfl⟩
abbrev main_call12_c_2 : Ref sig .tc := ⟨.hbm, 133, rfl⟩
abbrev main_call12_v6 : Ref sig .tc := ⟨.hbm, 134, rfl⟩
abbrev main_call12_v7 : Ref sig .tc := ⟨.hbm, 135, rfl⟩
abbrev main_call12_v8 : Ref sig .tc := ⟨.hbm, 136, rfl⟩
abbrev main_call12_v9 : Ref sig .tc := ⟨.hbm, 137, rfl⟩
abbrev main_call12_v10 : Ref sig .tc := ⟨.hbm, 138, rfl⟩
abbrev main_call12_v11 : Ref sig .tc := ⟨.hbm, 139, rfl⟩
abbrev main_call12_c_3 : Ref sig .tc := ⟨.hbm, 140, rfl⟩
abbrev main_call12_v12 : Ref sig .tc := ⟨.hbm, 141, rfl⟩
abbrev main_call12_v13 : Ref sig .tc := ⟨.hbm, 142, rfl⟩
abbrev main_call12_v14 : Ref sig .tc := ⟨.hbm, 143, rfl⟩
abbrev main_call12_cst : Ref sig .tc := ⟨.hbm, 144, rfl⟩
abbrev main_call12_v15 : Ref sig .tc := ⟨.hbm, 145, rfl⟩
abbrev main_v72 : Ref sig .tc := ⟨.hbm, 146, rfl⟩

abbrev nD : Nat := 1
abbrev τ : Topo := Topo.v7x

variable {F : FTy → Type} [FloatOps F]
-- ==== Proof.EncBodyI.lean ====
/- The quantising call (custom_call 0) of `KernelIdeal`: what its body stores, tile by tile, the body's triple, and the pipeline's
   proof data with its body obligation, from any contents of the unscoped buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.I

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One tile -/

/-- The upper ends of a tile, one for each row. -/
def tLmax (v : Vec F S256x128 .bf16) : Vec F S256x1 .f32 := k0_pay6 v
/-- The lower ends of a tile, one for each row. -/
def tLmin (v : Vec F S256x128 .bf16) : Vec F S256x1 .f32 := k0_pay7 v
/-- The codes of a tile. -/
def tCode (v : Vec F S256x128 .bf16) : Vec F S256x128 .i8 := k0_pay12 (k0_pay1 v) (k0_pay2 v) 126#32 (k0_pay9 v)
/-- The decoded elements of a tile. -/
def tDec (v : Vec F S256x128 .bf16) : Vec F S256x128 .bf16 :=
  k0_pay13 (k0_pay1 v) (k0_pay2 v) (k0_pay7 v) (k0_pay8 v) 126#32 (k0_pay9 v)

/-! ## The forty tiles of a block, last first -/

/-- Tile `39 - k` lies within a block of elements. -/
theorem inb_big (k : Fin 40) : ∀ a : Fin S256x5120.rank, (![0, (39 - k.val) * 128] : Fin 2 → ℕ) a + S256x128.size a ≤ S256x5120.size a :=
  fun a => match a with | ⟨0, _⟩ => Nat.le_refl 256 | ⟨1, _⟩ => (by have := k.isLt; show (39 - k.val) * 128 + 128 ≤ 5120; omega)

/-- Column `39 - k` lies within a block of ends. -/
theorem inb_small (k : Fin 40) : ∀ a : Fin S256x40.rank, (![0, 39 - k.val] : Fin 2 → ℕ) a + S256x1.size a ≤ S256x40.size a :=
  fun a => match a with | ⟨0, _⟩ => Nat.le_refl 256 | ⟨1, _⟩ => (by have := k.isLt; show (39 - k.val) + 1 ≤ 40; omega)

/-- The rectangle of tile `39 - k`. -/
abbrev rBig (k : Fin 40) : Rect S256x5120 := Rect.unit (s := S256x5120) ![0, (39 - k.val) * 128] S256x128.size (inb_big k)
/-- The rectangle of column `39 - k`. -/
abbrev rSmall (k : Fin 40) : Rect S256x40 := Rect.unit (s := S256x40) ![0, 39 - k.val] S256x1.size (inb_small k)

/-- Tile `39 - k` of a block. -/
abbrev tileLd (x0 : Vec F S256x5120 .bf16) (k : Fin 40) : Vec F S256x128 .bf16 := View.ld x0 (rBig k)

/-- The stores of codes. -/
abbrev L1 (x0 : Vec F S256x5120 .bf16) : List (View.Piece (Elt F) S256x5120 .i8) := List.ofFn fun k : Fin 40 => ⟨rBig k, tCode (tileLd x0 k)⟩
/-- The stores of lower ends. -/
abbrev L2 (x0 : Vec F S256x5120 .bf16) : List (View.Piece (Elt F) S256x40 .f32) := List.ofFn fun k : Fin 40 => ⟨rSmall k, tLmin (tileLd x0 k)⟩
/-- The stores of upper ends. -/
abbrev L3 (x0 : Vec F S256x5120 .bf16) : List (View.Piece (Elt F) S256x40 .f32) := List.ofFn fun k : Fin 40 => ⟨rSmall k, tLmax (tileLd x0 k)⟩
/-- The stores of decoded elements. -/
abbrev L4 (x0 : Vec F S256x5120 .bf16) : List (View.Piece (Elt F) S256x5120 .bf16) := List.ofFn fun k : Fin 40 => ⟨rBig k, tDec (tileLd x0 k)⟩

/-- The codes of a block after the body. -/
def out1 (x0 : Vec F S256x5120 .bf16) : Vec F S256x5120 .i8 := View.canon (L1 x0)
/-- The lower ends of a block after the body. -/
def out2 (x0 : Vec F S256x5120 .bf16) : Vec F S256x40 .f32 := View.canon (L2 x0)
/-- The upper ends of a block after the body. -/
def out3 (x0 : Vec F S256x5120 .bf16) : Vec F S256x40 .f32 := View.canon (L3 x0)
/-- The decoded elements of a block after the body. -/
def out4 (x0 : Vec F S256x5120 .bf16) : Vec F S256x5120 .bf16 := View.canon (L4 x0)

/-- Some tile holds each element. -/
theorem cover_big (y : S256x5120.Idx) : ∃ k : Fin 40, ∀ a : Fin S256x5120.rank,
    (![0, (39 - k.val) * 128] : Fin 2 → ℕ) a ≤ y a ∧ (y a).val < (![0, (39 - k.val) * 128] : Fin 2 → ℕ) a + S256x128.size a := by
  have h0 : (y 0).val < 256 := (y 0).isLt
  have h1 : (y 1).val < 5120 := (y 1).isLt
  refine ⟨⟨39 - (y 1).val / 128, by omega⟩, fun a => match a with
    | ⟨0, _⟩ => ⟨Nat.zero_le _, by show (y 0).val < 0 + 256; omega⟩
    | ⟨1, _⟩ => ⟨?_, ?_⟩⟩
  · show (39 - (39 - (y 1).val / 128)) * 128 ≤ (y 1).val; omega
  · show (y 1).val < (39 - (39 - (y 1).val / 128)) * 128 + 128; omega

/-- Some column holds each tile's end. -/
theorem cover_small (y : S256x40.Idx) : ∃ k : Fin 40, ∀ a : Fin S256x40.rank,
    (![0, 39 - k.val] : Fin 2 → ℕ) a ≤ y a ∧ (y a).val < (![0, 39 - k.val] : Fin 2 → ℕ) a + S256x1.size a := by
  have h0 : (y 0).val < 256 := (y 0).isLt
  have h1 : (y 1).val < 40 := (y 1).isLt
  refine ⟨⟨39 - (y 1).val, by omega⟩, fun a => match a with
    | ⟨0, _⟩ => ⟨Nat.zero_le _, by show (y 0).val < 0 + 256; omega⟩
    | ⟨1, _⟩ => ⟨?_, ?_⟩⟩
  · show 39 - (39 - (y 1).val) ≤ (y 1).val; omega
  · show (y 1).val < 39 - (39 - (y 1).val) + 1; omega

/-- Stores through the tiles' rectangles cover a block of elements. -/
theorem covers_big {e : EltTy} (g : Fin 40 → S256x128.Idx → Elt F e) (y : S256x5120.Idx) :
    ∃ p ∈ (List.ofFn fun k : Fin 40 => (⟨rBig k, g k⟩ : View.Piece (Elt F) S256x5120 e)), y ∈ p.1.set :=
  (cover_big y).elim fun k h => ⟨_, List.mem_ofFn.mpr ⟨k, rfl⟩, (Rect.mem_set_unit (inb := inb_big k)).mpr h⟩

/-- Stores through the columns' rectangles cover a block of ends. -/
theorem covers_small {e : EltTy} (g : Fin 40 → S256x1.Idx → Elt F e) (y : S256x40.Idx) :
    ∃ p ∈ (List.ofFn fun k : Fin 40 => (⟨rSmall k, g k⟩ : View.Piece (Elt F) S256x40 e)), y ∈ p.1.set :=
  (cover_small y).elim fun k h => ⟨_, List.mem_ofFn.mpr ⟨k, rfl⟩, (Rect.mem_set_unit (inb := inb_small k)).mpr h⟩

/-- What a list of stores leaves, when it is a covering family. -/
theorem read_writes_of_eq {κ} {sp : Space} {s : Shape} {e : EltTy} (v : View sig κ sp s e) (f : v.ty.Contents (Elt F)) (L L' : List (View.Piece (Elt F) s e))
    (hL : L = L') (hc : ∀ y, ∃ p ∈ L', y ∈ p.1.set) : v.read (Elt F) (v.writes (Elt F) f L) = View.canon L' := by
  subst hL; exact View.read_writes_eq_canon _ _ _ hc

/-! ## The body's triple -/

set_option maxHeartbeats 2352000 in
/-- The body on whole staging memrefs, the input's at `x0` and the outputs' at anything, leaves the input's as it was and
    each output's at its function of `x0`. -/
theorem sound_kernel (c : Dev nD) (E : Set ℕ) (i : grid0.Coords) (arg1 : Memref sig .tc .vmem S256x5120 .bf16) (harg1 : arg1.IsWhole)
    (arg2 : Memref sig .tc .vmem S256x5120 .i8) (harg2 : arg2.IsWhole) (arg3 : Memref sig .tc .vmem S256x40 .f32) (harg3 : arg3.IsWhole)
    (arg4 : Memref sig .tc .vmem S256x40 .f32) (harg4 : arg4.IsWhole) (arg5 : Memref sig .tc .vmem S256x5120 .bf16) (harg5 : arg5.IsWhole)
    (x0 : Vec F S256x5120 .bf16) (K : PUnit → sProp (MT nD τ sig Unit (Elt F) ℕ (UR sig nD τ) ℕ)) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (out1 x0) ∗ owns (c : Thread nD τ) arg3 fullShare (out2 x0) ∗ owns (c : Thread nD τ) arg4 fullShare (out3 x0) ∗ owns (c : Thread nD τ) arg5 fullShare (out4 x0)) -∗ K ⟨⟩))
      ⊢ wp frame (wpE (defs₀ (F := F)) Variants.none c none) E (cc0__encode_body i arg1 harg1 arg2 harg2 arg3 harg3 arg4 harg4 arg5 harg5) K := by
  simp only [cc0__encode_body_eq_skeleton]; unfold cc0__encode_body_skel
  simp only [
    k0_part73_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton, k0_part34_eq_skeleton,
    k0_part35_eq_skeleton, k0_part36_eq_skeleton, k0_part37_eq_skeleton, k0_part38_eq_skeleton, k0_part39_eq_skeleton,
    k0_part40_eq_skeleton, k0_part41_eq_skeleton, k0_part42_eq_skeleton, k0_part43_eq_skeleton, k0_part44_eq_skeleton,
    k0_part45_eq_skeleton, k0_part46_eq_skeleton, k0_part47_eq_skeleton, k0_part48_eq_skeleton, k0_part49_eq_skeleton,
    k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton,
    k0_part60_eq_skeleton, k0_part61_eq_skeleton, k0_part62_eq_skeleton, k0_part63_eq_skeleton, k0_part64_eq_skeleton,
    k0_part65_eq_skeleton, k0_part66_eq_skeleton, k0_part67_eq_skeleton, k0_part68_eq_skeleton, k0_part69_eq_skeleton,
    k0_part70_eq_skeleton, k0_part71_eq_skeleton, k0_part72_eq_skeleton]
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    refine read_writes_of_eq _ _ _ (L1 _) ?_ (covers_big _)
    sl_kernel_rfl
  isplitl [H2]
  · iexists _; isplitr
    swap; · iexact H2
    ipureintro
    refine read_writes_of_eq _ _ _ (L2 _) ?_ (covers_small _)
    sl_kernel_rfl
  isplitl [H3]
  · iexists _; isplitr
    swap; · iexact H3
    ipureintro
    refine read_writes_of_eq _ _ _ (L3 _) ?_ (covers_small _)
    sl_kernel_rfl
  iexists _; isplitr
  swap; · iexact H4
  ipureintro
  refine read_writes_of_eq _ _ _ (L4 _) ?_ (covers_big _)
  sl_kernel_rfl

/-! ## The pipeline's proof data -/

variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the call finds them, each output's buffer at its function of the input's block. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => out1 (iblk V c 0 t)
    | ⟨2, _⟩ => out2 (iblk V c 0 t)
    | ⟨3, _⟩ => out3 (iblk V c 0 t)
    | ⟨4, _⟩ => out4 (iblk V c 0 t)
  Φ _ := Pipeline.ΦA spec0 c
  q _ := fullShare
  owed _ := 0

/-- The arrays are as the call finds them. -/
theorem A0_eq (c : Dev nD) (w : Fin cfg0.W) : (dat0 V c).A w = V c (Pipeline.arrRef spec0 w) := by dsimp only [dat0]
/-- What each buffer of the encoder holds after a point: the argument's block as read, -/
theorem after0_0 (c : Dev nD) (t : Fin cfg0.N) : (dat0 V c).after 0 t = iblk V c 0 t := by dsimp only [dat0]
/-- the codes, -/
theorem after0_1 (c : Dev nD) (t : Fin cfg0.N) : (dat0 V c).after 1 t = out1 (iblk V c 0 t) := by dsimp only [dat0]
/-- the lower ends, -/
theorem after0_2 (c : Dev nD) (t : Fin cfg0.N) : (dat0 V c).after 2 t = out2 (iblk V c 0 t) := by dsimp only [dat0]
/-- the upper ends, -/
theorem after0_3 (c : Dev nD) (t : Fin cfg0.N) : (dat0 V c).after 3 t = out3 (iblk V c 0 t) := by dsimp only [dat0]
/-- and the decoded elements. -/
theorem after0_4 (c : Dev nD) (t : Fin cfg0.N) : (dat0 V c).after 4 t = out4 (iblk V c 0 t) := by dsimp only [dat0]

/-- The input's staging buffer holds its block at every point. -/
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A0_eq]; try rfl) t d).trans
    (by unfold Dat.fetched Dat.blockOf iblk; rw [A0_eq]; try rfl)

/-! ## The body obligation -/

/-- What the body is called with at point `t`, the windows one by one. -/
def bodyPre (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns. -/
def bodyPost (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) V c) (defs₀ (F := F)) Variants.none () Set.univ := fun t => by
  rw [bigSep_W0, bigSep_W0, defs₀_row]
  exact triple_restated (sound_body V c t) rfl .rfl fun _ => .rfl

end Cert.Proof.I

end
-- ==== Proof.GatI.lean ====
/- The gather (custom_call 1) of `KernelIdeal`: one trip of its loop, the loop, and the body's triple. -/
module

public import proofs.«01_k».proof.Proof.EncBodyI
public import proofs.«01_k».proof.Proof.Gen.KernelIdeal.Loops
public import Idealize.ShloMosaic.Lib.Pointwise
public import Idealize.ShloMosaic.Lib.Pipeline.ValueKit

@[expose] public section

set_option maxRecDepth 16384

noncomputable section

namespace Cert.Proof.I

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the gather stores -/

/-- Entry `n` of the row table. -/
def wordAt (tbl : Vec F S16384 .i32) (n : ℕ) : Elt F .i32 := tbl (ix1 ⟨n % 16384, Nat.mod_lt _ (by decide)⟩)

/-- The pair of rows of a block of decoded elements that holds row `w`. -/
def pairAt (d : Vec F S8192x640 .bf16) (w : BitVec 32) : Vec F S2x640 .bf16 :=
  fun x => d (ix2 ⟨(k1_off3 w 0 + (x 0).val) % 8192, Nat.mod_lt _ (by decide)⟩ (x 1))

/-- The pair of gathered rows from entries `n` and `n + 1` of the table. -/
def gRows (tbl : Vec F S16384 .i32) (d : Vec F S8192x640 .bf16) (n : ℕ) : Vec F S2x640 .bf16 :=
  k1_pay1 (wordAt tbl n) (wordAt tbl (n + 1)) (pairAt d (wordAt tbl n)) (pairAt d (wordAt tbl (n + 1)))

/-- The block of 512 gathered rows from entry `512 q` of the table on. -/
def gBlk (tbl : Vec F S16384 .i32) (d : Vec F S8192x640 .bf16) (q : ℕ) : Vec F S512x640 .bf16 :=
  fun y => gRows tbl d (512 * q + 2 * ((y 0).val / 2)) (ix2 ⟨(y 0).val % 2, Nat.mod_lt _ (by decide)⟩ (y 1))

/-- Loading two rows at an admissible word is taking its pair. -/
theorem ld_pair (d : Vec F S8192x640 .bf16) (w : BitVec 32) (h : ∀ a, k1_off3 w a + S2x640.size a ≤ S8192x640.size a) :
    View.ld d (Rect.unit (s := S8192x640) (k1_off3 w) S2x640.size h) = pairAt d w := funext fun x => by
  have h0 : k1_off3 w 0 + 2 ≤ 8192 := h 0
  have hx : (x 0).val < 2 := (x 0).isLt
  exact View.ld_unit_apply_of d _ _ h _ _ fun a => match a with
    | ⟨0, _⟩ => Nat.mod_eq_of_lt (by show k1_off3 w 0 + (x 0).val < 8192; omega)
    | ⟨1, _⟩ => (Nat.zero_add _).symm

/-- Reading one entry of the table at an in-range offset. -/
theorem ld_word (tbl : Vec F S16384 .i32) (off : Fin 1 → ℕ) (n : ℕ) (e : off = ![n]) (h : ∀ a, off a + S1.size a ≤ S16384.size a) (x) :
    View.ld tbl (Rect.unit (s := S16384) off S1.size h) x = wordAt tbl n := by
  subst e
  have h0 : n + 1 ≤ 16384 := h 0
  have hx : (x 0).val < 1 := (x 0).isLt
  exact View.ld_unit_apply_of tbl _ _ h _ _ fun a => match a with
    | ⟨0, _⟩ => (Nat.mod_eq_of_lt (by omega)).trans (by show n = n + (x 0).val; omega)

/-- A trip's payload from what it read. -/
theorem pay_eq (tbl : Vec F S16384 .i32) (d : Vec F S8192x640 .bf16) (n : ℕ) (w1 w2 : Elt F .i32) (e1 : w1 = wordAt tbl n) (e2 : w2 = wordAt tbl (n + 1))
    (h1 : k1_chk1 w1) (h2 : k1_chk2 w2) :
    k1_pay1 w1 w2 (View.ld d (Rect.unit (s := S8192x640) (k1_off3 w1) S2x640.size h1)) (View.ld d (Rect.unit (s := S8192x640) (k1_off4 w2) S2x640.size h2))
      = gRows tbl d n := by
  subst e1 e2
  exact congrArg₂ (k1_pay1 _ _) (ld_pair d _ h1) (ld_pair d _ h2)

section Trip

variable (c : Dev nD) (i : grid1.Coords) (arg2 : Memref sig .tc .smem S16384 .i32) (harg2 : arg2.IsWhole)
  (arg3 : Memref sig .tc .vmem S8192x640 .bf16) (harg3 : arg3.IsWhole) (arg4 : Memref sig .tc .vmem S512x640 .bf16) (harg4 : arg4.IsWhole)

/-- One trip: from the table, the decoded block and the output's buffer, the buffer with one pair of gathered rows stored. -/
theorem trip (t : Fin k1_t1_loop.trips) (f2 : Buf (Elt F) (arg2.view.loc (c : Thread nD τ))) (f3 : Buf (Elt F) (arg3.view.loc (c : Thread nD τ)))
    (f4 : Buf (Elt F) (arg4.view.loc (c : Thread nD τ)))
    (h1 : ∀ (r : Rect S16384) x, k1_chk1 (View.readAt (Elt F) arg2.view r.toLoadRect f2 x))
    (h2 : ∀ (r : Rect S16384) x, k1_chk2 (View.readAt (Elt F) arg2.view r.toLoadRect f2 x)) (acc : Unit) :
    (iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4)) : sProp (MT nD τ sig Unit (Elt F) ℕ (UR sig nD τ) ℕ))
      ⊢ wp frame (wpE (defs₀ (F := F)) Variants.none c none) Set.univ
        (k1_t1_body (F := F) i arg2 harg2 arg3 harg3 arg4 harg4 (Scalar.muli (BitVec.ofNat 32 (i 1).val) 512#32) t acc)
        (fun _ => iprop((arg2.view.loc (c : Thread nD τ) ↦[arg2.view.set]{fullShare} f2) ∗ (arg3.view.loc (c : Thread nD τ) ↦[arg3.view.set]{fullShare} f3)
        ∗ ∃ g : Buf (Elt F) (arg4.view.loc (c : Thread nD τ)), (arg4.view.loc (c : Thread nD τ) ↦[arg4.view.set]{fullShare} g) ∗ ⌜g = arg4.view.writes (Elt F) f4 [⟨Rect.unit (s := S512x640) (k1_off5 t) S2x640.size (k1_off5_inb t),
            gRows (View.read (Elt F) arg2.view f2) (View.read (Elt F) arg3.view f3) (512 * (i 1).val + 2 * t.val)⟩]⌝)) := by
  unfold k1_t1_body
  simp only [k1_part1_eq_skeleton]; unfold k1_part1_skel
  iintro ⟨H2, H3, H4⟩
  sl_exec (disch := first | exact h1 _ _ | exact h2 _ _)
  sl_step
  isplitl [H2]; · iexact H2
  isplitl [H3]; · iexact H3
  iexists _; isplitl [H4]; · iexact H4
  ipureintro
  refine congrArg (fun p => arg4.view.writes (Elt F) f4 [⟨Rect.unit (s := S512x640) (k1_off5 t) S2x640.size (k1_off5_inb t), p⟩]) ?_
  exact pay_eq _ _ _ _ _ (ld_word _ _ _ (k1_off1_eq i t) _ _) (ld_word _ _ _ (k1_off2_eq i t) _ _) (h1 _ _) (h2 _ _)

/-- The loop's invariant: the pairs stored so far read as the gathered block. -/
def inv (q : ℕ) (f2 : Buf (Elt F) (arg2.view.loc (c : Thread nD τ))) (f3 : Buf (Elt F) (arg3.view.loc (c : Thread nD τ))) (k : ℕ) (_ : Unit) : sProp (MT nD τ sig Unit (Elt F) ℕ (UR sig nD τ) ℕ) :=
  iprop((arg2.view.loc (c : Thread nD τ) ↦[arg2.view.set]{fullShare} f2) ∗ (arg3.view.loc (c : Thread nD τ) ↦[arg3.view.set]{fullShare} f3)
    ∗ ∃ g : Buf (Elt F) (arg4.view.loc (c : Thread nD τ)), (arg4.view.loc (c : Thread nD τ) ↦[arg4.view.set]{fullShare} g) ∗ ⌜∀ y : S512x640.Idx, (y 0).val < 2 * k →
      View.read (Elt F) arg4.view g y = gBlk (View.read (Elt F) arg2.view f2) (View.read (Elt F) arg3.view f3) q y⌝)

/-- Storing pair `t` makes the first `t + 1` pairs read as the gathered block. -/
theorem stored (t : Fin k1_t1_loop.trips) (q : ℕ) (tbl : Vec F S16384 .i32) (d : Vec F S8192x640 .bf16) (f : Buf (Elt F) (arg4.view.loc (c : Thread nD τ)))
    (h : ∀ y : S512x640.Idx, (y 0).val < 2 * t.val → View.read (Elt F) arg4.view f y = gBlk tbl d q y) (y : S512x640.Idx) (hy : (y 0).val < 2 * (t.val + 1)) :
    View.read (Elt F) arg4.view (arg4.view.writes (Elt F) f [⟨Rect.unit (s := S512x640) (k1_off5 t) S2x640.size (k1_off5_inb t), gRows tbl d (512 * q + 2 * t.val)⟩]) y
      = gBlk tbl d q y := by
  have e := k1_off5_eq t
  have e0 : k1_off5 t 0 = 2 * t.val := congrFun e 0
  have e1 : k1_off5 t 1 = 0 := congrFun e 1
  have hy1 : (y 1).val < 640 := (y 1).isLt
  by_cases hlt : (y 0).val < 2 * t.val
  · refine (View.read_writes_apply_of_forall_not_mem _ _ y _ fun p hp hm => ?_).trans (h y hlt)
    obtain rfl := List.mem_singleton.mp hp
    have := ((Rect.mem_set_unit (inb := k1_off5_inb t)).mp hm 0).1
    rw [e0] at this
    omega
  · refine View.read_writes_apply_of_pieces _ _ _ _ (fun p hp x => ?_) y ⟨_, List.mem_singleton.mpr rfl, (Rect.mem_set_unit (inb := k1_off5_inb t)).mpr fun a => match a with
      | ⟨0, _⟩ => ?_
      | ⟨1, _⟩ => ?_⟩
    · obtain rfl := List.mem_singleton.mp hp
      have hx0 : (x 0).val < 2 := (x 0).isLt
      have v0 : (((Rect.unit (s := S512x640) (k1_off5 t) S2x640.size (k1_off5_inb t)).emb x) 0).val = 2 * t.val + (x 0).val := by
        rw [ValueKit.rect_emb_unit_val, e0]
      have v1 : (((Rect.unit (s := S512x640) (k1_off5 t) S2x640.size (k1_off5_inb t)).emb x) 1).val = (x 1).val := by
        rw [ValueKit.rect_emb_unit_val, e1, Nat.zero_add]
      unfold gBlk
      generalize (Rect.unit (s := S512x640) (k1_off5 t) S2x640.size (k1_off5_inb t)).emb x = z at v0 v1
      rw [show (z 0).val / 2 = t.val by omega]
      refine congrArg _ ((eq_ix2 x).trans (congrArg₂ ix2 (Fin.ext ?_) (Fin.ext v1.symm)))
      show (x 0).val = (z 0).val % 2
      omega
    · show k1_off5 t 0 ≤ (y 0).val ∧ (y 0).val < k1_off5 t 0 + 2
      omega
    · show k1_off5 t 1 ≤ (y 1).val ∧ (y 1).val < k1_off5 t 1 + 640
      omega

/-- The loop runs 256 trips. -/
theorem trips_eq : k1_t1_loop.trips = 256 := by decide

/-- The body: from the table, the decoded block and the output's buffer at anything, the buffer at the gathered block. -/
theorem sound_gather (tbl : Vec F S16384 .i32) (d : Vec F S8192x640 .bf16) (h1 : ∀ j, k1_chk1 (tbl j)) (K : PUnit → sProp (MT nD τ sig Unit (Elt F) ℕ (UR sig nD τ) ℕ)) :
    iprop(owns (c : Thread nD τ) arg2 fullShare tbl ∗ owns (c : Thread nD τ) arg3 fullShare d ∗ (∃ v, owns (c : Thread nD τ) arg4 fullShare v)
        ∗ (iprop(owns (c : Thread nD τ) arg2 fullShare tbl ∗ owns (c : Thread nD τ) arg3 fullShare d ∗ owns (c : Thread nD τ) arg4 fullShare (gBlk tbl d (i 1).val)) -∗ K ⟨⟩))
      ⊢ wp frame (wpE (defs₀ (F := F)) Variants.none c none) Set.univ (cc1__gather_body i arg2 harg2 arg3 harg3 arg4 harg4) K := by
  simp only [cc1__gather_body_eq_skeleton]; unfold cc1__gather_body_skel owns
  iintro ⟨⟨%f2, %e2, H2⟩, ⟨%f3, %e3, H3⟩, ⟨%v, %f4, -, H4⟩, Hk⟩
  subst e2 e3
  iapply (Scf.wp_for_bind frame (wpE (defs₀ (F := F)) Variants.none c none) Set.univ _ _ _ _ _ _ (inv c arg2 arg3 arg4 (i 1).val f2 f3) ?_) $$ [H2 H3 H4]
  · intro k acc
    unfold inv
    iintro ⟨H2, H3, %g, H4, %hg⟩
    iapply (wp_wand_r Idealize.ShloMosaic.frame (wpE (defs₀ (F := F)) Variants.none c none) Set.univ)
    isplitl [H2 H3 H4]
    · iapply (trip c i arg2 harg2 arg3 harg3 arg4 harg4 k f2 f3 g (fun r x => h1 _) (fun r x => h1 _) acc)
      isplitl [H2]; · iexact H2
      isplitl [H3]; · iexact H3
      iexact H4
    · iintro %_ ⟨H2, H3, %g', H4, %e⟩
      isplitl [H2]; · iexact H2
      isplitl [H3]; · iexact H3
      iexists g'; isplitl [H4]; · iexact H4
      ipureintro
      subst e
      exact stored c arg4 k (i 1).val _ _ g hg
  · unfold inv
    isplitl [H2]; · iexact H2
    isplitl [H3]; · iexact H3
    iexists f4; isplitl [H4]; · iexact H4
    ipureintro
    intro y hy; exact absurd hy (Nat.not_lt_zero _)
  iintro %_ Hi
  unfold inv
  icases Hi with ⟨H2, H3, %g, H4, %hg⟩
  sl_step
  iapply Hk
  isplitl [H2]
  · iexists f2; isplitr; · ipureintro; rfl
    iexact H2
  isplitl [H3]
  · iexists f3; isplitr; · ipureintro; rfl
    iexact H3
  iexists g; isplitr
  swap; · iexact H4
  ipureintro
  exact funext fun y => hg y (by have : (y 0).val < 512 := (y 0).isLt; have : Scf.trips k1_t1_loop.lb k1_t1_loop.ub k1_t1_loop.st = 256 := trips_eq; omega)

end Trip

end Cert.Proof.I

end
-- ==== Proof.RegI.lean ====
/- The gather's pipeline and the run of `KernelIdeal`: the proof data of the gather, its body obligation, the two region
   records, and what the whole program leaves in its unscoped buffers. -/
module

public import proofs.«01_k».proof.Proof.GatI
public import proofs.«01_k».proof.Proof.Gen.KernelIdeal.Launch
public import Idealize.ShloMosaic.Lib.Pipeline.Frame
public import Idealize.ShloMosaic.Lib.Pipeline.Regions
public import Idealize.ShloMosaic.Lib.Pipeline.RegionArraysTS

@[expose] public section

set_option maxRecDepth 16384

noncomputable section

namespace Cert.Proof.I

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-! ## The gather's proof data -/

section Gather

variable (a : (pcfg1 (F := F)).Adm)
variable (V : (c : Dev nD) → (b : Ref sig .tc) → Buf (Elt F) ((c : Thread nD τ).loc b))

/-- The row table, the one table the gather prefetches. -/
def tblOf : Vec F S16384 .i32 := a.1 0

/-- Window `w`'s block at point `t` of the gather, read off its array as the call finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The proof data: the decoded array and the result as the call finds them, the result's buffer at the gathered block,
    the table held whole throughout. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => gBlk (tblOf a) (iblk1 a V c 0 t) (grid1.coords t 1).val
  Φ _ := iprop(Pipeline.ΦA spec1 c ∗ Pipeline.prefHeld pre1 c (fun _ => fullShare) a.1)
  q _ := fullShare
  owed _ := 0

/-- The gather's arrays are as the call finds them. -/
theorem A1_eq (c : Dev nD) (w : Fin (cfg1 a).W) : (dat1 a V c).A w = V c (Pipeline.arrRef spec1 w) := by dsimp only [dat1]
/-- What each buffer of the gather holds after a point: the decoded block as read, -/
theorem after1_0 (c : Dev nD) (t : Fin (cfg1 a).N) : (dat1 a V c).after 0 t = iblk1 a V c 0 t := rfl
/-- and the gathered block. -/
theorem after1_1 (c : Dev nD) (t : Fin (cfg1 a).N) :
    (dat1 a V c).after 1 t = gBlk (tblOf a) (iblk1 a V c 0 t) (grid1.coords t 1).val := rfl

/-- The decoded block's buffer holds its block at every point, whether or not it was fetched there. -/
theorem before1_0 (c : Dev nD) (t : Fin (cfg1 a).N) (d) : (dat1 a V c).before 0 t d = iblk1 a V c 0 t :=
  ((dat1 a V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)

/-- The one table, held whole. -/
theorem prefHeld1 (c : Dev nD) : (Pipeline.prefHeld pre1 c (fun _ => fullShare) a.1 : sProp (MT nD τ sig Unit (Elt F) ℕ (UR sig nD τ) ℕ))
    = owns (c : Thread nD τ) (Memref.whole main_arg1) fullShare (tblOf a) := by
  rw [owns_whole]
  unfold Pipeline.prefHeld
  rw [show (Finset.univ : Finset (Fin pre1.K)) = {0} from by decide, bigSep_singleton]
  rfl

/-- The gather's body at the point `t`, at its current staging buffers. -/
abbrev bodyAt1 (t : Fin (cfg1 a).N) : Prog (TpuEff nD τ sig (Elt F) Λ₀ .tc) PUnit :=
  cc1__gather_body (grid1.coords t) (Memref.whole main_arg1) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))

/-- What the body is called with at point `t`, the windows one by one. -/
def bodyPre1 (c : Dev nD) (t : Fin (cfg1 a).N) : sProp (MT nD τ sig Unit (Elt F) ℕ (UR sig nD τ) ℕ) :=
  iprop((dat1 a V c).Φ t.castSucc ∗ (dat1 a V c).owesAt () t.castSucc
    ∗ (∃ d, owns (c : Thread nD τ) (spec1_0.stage ((cfg1 a).slots t 0)) fullShare ((dat1 a V c).before 0 t d))
    ∗ (∃ d, owns (c : Thread nD τ) (spec1_1.stage ((cfg1 a).slots t 1)) fullShare ((dat1 a V c).before 1 t d)))

/-- What it returns. -/
def bodyPost1 (c : Dev nD) (t : Fin (cfg1 a).N) : sProp (MT nD τ sig Unit (Elt F) ℕ (UR sig nD τ) ℕ) :=
  iprop((dat1 a V c).Φ t.succ ∗ (dat1 a V c).owesAt () t.succ
    ∗ owns (c : Thread nD τ) (spec1_0.stage ((cfg1 a).slots t 0)) fullShare ((dat1 a V c).after 0 t)
    ∗ owns (c : Thread nD τ) (spec1_1.stage ((cfg1 a).slots t 1)) fullShare ((dat1 a V c).after 1 t))

/-- The body at any point, every word of the table naming a row of the array. -/
theorem sound_body1 (h : ∀ j, k1_chk1 (tblOf a j)) (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0]
  rw [show (dat1 a V c).Φ t.succ = (dat1 a V c).Φ t.castSucc from rfl,
    show (dat1 a V c).owesAt () t.succ = (dat1 a V c).owesAt () t.castSucc from rfl,
    after1_0, after1_1,
    show (dat1 a V c).Φ t.castSucc = iprop(Pipeline.ΦA spec1 c ∗ Pipeline.prefHeld pre1 c (fun _ => fullShare) a.1) from rfl, prefHeld1]
  iintro ⟨⟨HΦ, HT⟩, Ho, ⟨%d0, H0⟩, ⟨%d1, H1⟩⟩
  iapply (sound_gather c (grid1.coords t) _ _ _ _ _ _ (tblOf a) (iblk1 a V c 0 t) h _)
  isplitl [HT]; · iexact HT
  isplitl [H0]; · iexact H0
  isplitl [H1]; · iexists _; iexact H1
  iintro ⟨HT, H0, H1⟩
  isplitl [HΦ HT]
  · isplitl [HΦ]; · iexact HΦ
    iexact HT
  isplitl [Ho]; · iexact Ho
  isplitl [H0]; · iexact H0
  iexact H1

/-- The body table's row at point `t`'s slots. -/
theorem defs₀_row1 (t : Fin (cfg1 a).N) :
    defs₀ (F := F) .tc (cfg1 a).body ((cfg1 a).bodyArgs t ((cfg1 a).slots t)) = bodyAt1 a t := by
  unfold defs₀; rw [Defs.onTc_tc]

/-- The gather's body obligation, at every point. -/
theorem body_obligation1 (h : ∀ j, k1_chk1 (tblOf a j)) (c : Dev nD) :
    BodyObligation (dat1 a V c) (defs₀ (F := F)) Variants.none () Set.univ := fun t => by
  rw [bigSep_W1, bigSep_W1, defs₀_row1]
  exact triple_restated (sound_body1 a V h c t) rfl .rfl fun _ => .rfl

end Gather

/-! ## The two regions -/

section Run

variable (m : (ℓ : Loc nD τ sig) → Buf (Elt F) ℓ)

/-- The contents of the row table at launch. -/
def tbl (m : (ℓ : Loc nD τ sig) → Buf (Elt F) ℓ) : pre1.Contents (Elt F) :=
  fun | 0 => m ((((0 : Dev nD) : Thread nD τ)).loc main_arg1) | ⟨_ + 1, h⟩ => absurd h (Nat.not_lt.2 (Nat.le_add_left _ _))

/-- Every contents of the table is admissible to the pipeline. -/
abbrev adm1 : (pcfg1 (F := F)).Adm := ⟨tbl m, trivial⟩

/-- The two pipelines' tables. -/
abbrev adm : (p : Fin 2) → (pcfgs (F := F) p).Adm := fun | ⟨0, _⟩ => cfg0.toPCfg_adm | ⟨1, _⟩ => adm1 m

/-- The unscoped buffers at launch. -/
abbrev B0 (c : Dev nD) : Valuation τ sig (Elt F) := fun b => m (c, b)
/-- The encoder's proof data at the launch's buffers. -/
abbrev d0 (c : Dev nD) : Dat τ (Elt F) Unit ℕ (UR sig nD τ) ℕ cfg0 c := dat0 (fun c b => B0 m c b) c
/-- The unscoped buffers after the encoder. -/
def B1 (c : Dev nD) : Valuation τ sig (Elt F) := Pipeline.afterRegion (d0 m c) (B0 m c)
/-- The gather's proof data at what the encoder leaves. -/
abbrev d1 (c : Dev nD) : Dat τ (Elt F) Unit ℕ (UR sig nD τ) ℕ (cfg1 (adm1 m)) c := dat1 (adm1 m) (fun c b => B1 m c b) c
/-- The unscoped buffers after the gather. -/
def B2 (c : Dev nD) : Valuation τ sig (Elt F) := Pipeline.afterRegion (d1 m c) (B1 m c)

/-- The two pipelines' proof data. -/
def pdats : (p : Fin 2) → (c : Dev nD) → Dat τ (Elt F) Unit ℕ (UR sig nD τ) ℕ (Pipeline.pin (pcfgs (F := F)) (adm m) p) c :=
  fun | ⟨0, _⟩ => fun c => d0 m c | ⟨1, _⟩ => fun c => d1 m c

/-- No core owes another anything: one level for every cell, nothing assigned above it. -/
abbrev L : GSem nD τ sig → Finset Unit := fun g => if g.1.2 = .tc then {()} else ∅
/-- Every cell is at level zero. -/
abbrev lv : GSem nD τ sig → Unit → ℕ := fun _ _ => 0

/-- What rides beside the buffers: the core's dues, none, and its generator register. -/
abbrev E (c : Dev nD) : sProp (MT nD τ sig Unit (Elt F) ℕ (UR sig nD τ) ℕ) := iprop((∃ W, owes (c : Thread nD τ) (0 : CellTallies nD τ sig Unit) W) ∗ (∃ r, prngReg c r) ∗ emp)

/-- The levels for either region: every staging cell at level zero, nothing owed. -/
theorem levelCut (p : Fin 2) : Pipeline.LevelCut (pcfgs (F := F)) (adm m) () L lv p (fun _ : Dev nD => 0) (fun _ => 0) where
  hι c w s := by simp [L]
  hιb c w s := le_refl _
  hD c g i h := absurd h (lt_irrefl _)

/-- The encoder's region: entered from the unscoped buffers as launched, left with its four results written. -/
def reg0 : Pipeline.RegionSeg (pcfgs (F := F)) (adm m) (pdats m) () defs₀ Variants.none L lv 0 :=
  Pipeline.RegionSeg.ofHeldIn (pcfgs (F := F)) (adm m) (pdats m) () defs₀ Variants.none L lv 0 (fun _ => 0)
    (Pipeline.ucRefs τ sig) (fun c => iprop(∃ r, prngReg c r)) (fun c => iprop(∃ r, prngReg c r)) launch0 rfl
    (fun c => (body_obligation0 (fun c b => B0 m c b) c).loose) (fun _ _ => rfl) (fun _ => rfl)
    (fun c w => (d0 m c).share_full (fun _ => rfl) w)
    (fun c => .rfl) (fun c => .rfl) (fun _ => 0) (levelCut m 0) (fun _ => iprop(emp)) (B0 m)
    (fun c w => rfl)

/-- The encoder leaves the row table as launched. -/
theorem B1_arg1 (c : Dev nD) : B1 m c main_arg1 = m ((c : Thread nD τ).loc main_arg1) :=
  Pipeline.afterRegion_of_not_arr (d0 m c) (B0 m c) (b := main_arg1) (by decide)

/-- The gather finds the table as launched. -/
theorem hT (c : Dev nD) (k : Fin pre1.K) : tbl m k = B1 m c (Proc.devRef .tc (pre1.ref k)) := by
  obtain rfl : c = 0 := Subsingleton.elim _ _
  obtain rfl : k = 0 := Subsingleton.elim (α := Fin 1) _ _
  exact (B1_arg1 m 0).symm

/-- The gather's region, every word of the table naming a row of the array. -/
def reg1 (h : ∀ j, k1_chk1 (tblOf (adm1 m) j)) : Pipeline.RegionSeg (pcfgs (F := F)) (adm m) (pdats m) () defs₀ Variants.none L lv 1 :=
  Pipeline.RegionSeg.ofHeldInT (pcfgs (F := F)) (adm m) (pdats m) () defs₀ Variants.none L lv 1 (fun _ => 0)
    (Pipeline.ucRefs τ sig) (fun c => iprop(∃ r, prngReg c r)) (fun c => iprop(∃ r, prngReg c r)) launch1
    (fun c => (body_obligation1 (adm1 m) (fun c b => B1 m c b) h c).loose) (fun _ _ => rfl) (fun _ => rfl)
    (fun c w => (d1 m c).share_full (fun _ => rfl) w)
    (fun c => .rfl) (fun c => .rfl) (fun _ => 0) (levelCut m 1) (fun _ => iprop(emp)) (B1 m)
    (fun c w => rfl) (hT m)

/-- The encoder's arrays are unscoped buffers. -/
theorem arrRefs_sub0 : Pipeline.arrRefs (τ := τ) spec0 ⊆ Pipeline.ucRefs τ sig := Pipeline.arrRefs_sub_ucRefs spec0 (by decide)
/-- The gather's arrays are unscoped buffers. -/
theorem arrRefs_sub1 : Pipeline.arrRefs (τ := τ) spec1 ⊆ Pipeline.ucRefs τ sig := Pipeline.arrRefs_sub_ucRefs spec1 (by decide)
/-- The gather's table is an unscoped buffer. -/
theorem tblRefs_sub1 : Pipeline.tblRefs (τ := τ) pre1 ⊆ Pipeline.ucRefs τ sig := Pipeline.tblRefs_sub_ucRefs pre1 (by decide)

/-- The encoder's region is entered from the launch's buffers, -/
theorem pre0 (c : Dev nD) : iprop(StableHlo.held (c : Thread nD τ) (Pipeline.ucRefs τ sig) (B0 m c) ∗ E c) ⊢ (reg0 m).pre c :=
  Pipeline.RegionSeg.ofHeldIn_pre (pcs := pcfgs (F := F)) (a := adm m) (pdats := pdats m) (p := 0) (W := B0 m) (X := fun c => iprop(∃ r, prngReg c r)) (Y := fun c => iprop(∃ r, prngReg c r)) (R := fun _ => iprop(emp)) (D := fun _ => 0) arrRefs_sub0 c
/-- and left at what it writes over them. -/
theorem post0 (c : Dev nD) : (reg0 m).post c ⊢ iprop(StableHlo.held (c : Thread nD τ) (Pipeline.ucRefs τ sig) (B1 m c) ∗ E c) :=
  Pipeline.RegionSeg.ofHeldIn_post (pcs := pcfgs (F := F)) (a := adm m) (pdats := pdats m) (p := 0) (W := B0 m) (X := fun c => iprop(∃ r, prngReg c r)) (Y := fun c => iprop(∃ r, prngReg c r)) (R := fun _ => iprop(emp)) (D := fun _ => 0) arrRefs_sub0 c
/-- The gather's region is entered from what the encoder left, -/
theorem pre1' (h : ∀ j, k1_chk1 (tblOf (adm1 m) j)) (c : Dev nD) :
    iprop(StableHlo.held (c : Thread nD τ) (Pipeline.ucRefs τ sig) (B1 m c) ∗ E c) ⊢ (reg1 m h).pre c :=
  Pipeline.RegionSeg.ofHeldInT_pre (pcs := pcfgs (F := F)) (a := adm m) (pdats := pdats m) (p := 1) (W := B1 m) (X := fun c => iprop(∃ r, prngReg c r)) (Y := fun c => iprop(∃ r, prngReg c r)) (R := fun _ => iprop(emp)) (D := fun _ => 0) arrRefs_sub1 tblRefs_sub1 c
/-- and left at what it writes over that. -/
theorem post1 (h : ∀ j, k1_chk1 (tblOf (adm1 m) j)) (c : Dev nD) :
    (reg1 m h).post c ⊢ iprop(StableHlo.held (c : Thread nD τ) (Pipeline.ucRefs τ sig) (B2 m c) ∗ E c) :=
  Pipeline.RegionSeg.ofHeldInT_post (pcs := pcfgs (F := F)) (a := adm m) (pdats := pdats m) (p := 1) (W := B1 m) (X := fun c => iprop(∃ r, prngReg c r)) (Y := fun c => iprop(∃ r, prngReg c r)) (R := fun _ => iprop(emp)) (D := fun _ => 0) arrRefs_sub1 tblRefs_sub1 c

/-- The launch's ghost element: the staging cells of the two pipelines. -/
def u₀ : UR sig nD τ := initOf (Pipeline.cells (Pipeline.pin (pcfgs (F := F)) (adm m)) (cellOf_inj (adm m)))
  (Pipeline.launchToks (Pipeline.pin (pcfgs (F := F)) (adm m)) (cellOf_inj (adm m)))

/-- It is what the library asks for, beside nothing. -/
theorem hu₀ : (ownU (u₀ m) : sProp (MT nD τ sig Unit (Elt F) ℕ (UR sig nD τ) ℕ)) ⊢ |={Set.univ}=> iprop(BI.own (emb₁ (initOf (Pipeline.cells (Pipeline.pin (pcfgs (F := F)) (adm m)) (cellOf_inj (adm m)))
      (Pipeline.launchToks (Pipeline.pin (pcfgs (F := F)) (adm m)) (cellOf_inj (adm m))))) ∗ bigSep Finset.univ fun _ : Dev nD => (iprop(emp) : sProp (MT nD τ sig Unit (Elt F) ℕ (UR sig nD τ) ℕ))) := by
  iintro Hu; imodintro
  isplitl [Hu]; · iapply (show (ownU (u₀ m) : sProp (MT nD τ sig Unit (Elt F) ℕ (UR sig nD τ) ℕ)) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl); iexact Hu
  iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
  iempintro

/-- The launch makes the first thread state. -/
theorem hinit (ρ : Dev nD → PrngReg) :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ iprop(emp))) ∗ levAts L lv)
      ⊢ (|={Set.univ}=> bigSep Finset.univ (fun c : Dev nD => iprop(StableHlo.held (c : Thread nD τ) (Pipeline.ucRefs τ sig) (B0 m c) ∗ E c)) : sProp (MT nD τ sig Unit (Elt F) ℕ (UR sig nD τ) ℕ)) := by
  refine Pipeline.initEach L lv fun c => ?_
  rw [show unscopedBufs c (fun b => m ((c : Thread nD τ).loc b)) = StableHlo.held (c : Thread nD τ) (Pipeline.ucRefs τ sig) (B0 m c) from Pipeline.unscopedBufs_held c (B0 m c)]
  iintro ⟨⟨Hh, -, HO, -, Hp, -⟩, -⟩
  imodintro
  isplitl [Hh]; · iexact Hh
  isplitl [HO]; · iexists ∅; iexact HO
  isplitl [Hp]; · iexists _; iexact Hp
  iempintro

/-- What the last thread state says of the memory. -/
theorem hfin (c : Dev nD) (s' : Phys nD τ sig (Elt F)) :
    iprop(StableHlo.held (c : Thread nD τ) (Pipeline.ucRefs τ sig) (B2 m c) ∗ SI s')
      ⊢ (|={Set.univ}=> iprop(⌜∀ b ∈ Pipeline.ucRefs τ sig, s'.mem.mem (((c : Thread nD τ)).1, b) = B2 m c b⌝ ∗ SI s') : sProp (MT nD τ sig Unit (Elt F) ℕ (UR sig nD τ) ℕ)) := by
  unfold StableHlo.held
  iintro ⟨Hh, HSI⟩
  ihave Hr := (pointsTo_read_all (Pipeline.ucRefs τ sig) (fun b => ((c : Thread nD τ).1, b)) (B2 m c) s') $$ [Hh HSI]
  · isplitl [Hh] <;> iassumption
  imodintro
  iexact Hr

/-- @main is the run of the two regions. -/
theorem hmain (h : ∀ j, k1_chk1 (tblOf (adm1 m) j)) (c : Dev nD) :
    main (F := F) c = Pipeline.Seg.run [.region (reg0 m), .region (reg1 m h)] :=
  main_segs (adm m) (pdats m) () Variants.none L lv (reg0 m) (reg1 m h) c

/-- The TensorCore has no unscoped semaphore. -/
theorem no_unscoped : ∀ sm : SemLoc sig, sm.isScoped .tc = true := by decide

-- the library theorem's implicit arguments are found by unifying its conclusion with this one, which takes unfolding
-- plain definitions in a metavariable's type
set_option backward.isDefEq.respectTransparency.types false in
/-- Every word of the table naming a row of the array, every weakly fair execution from any memory with zero counters
    terminates, and every final state holds each unscoped buffer at what the two regions leave in it and every semaphore
    counter at zero. -/
theorem run_main (ρ : Dev nD → PrngReg) (h : ∀ j, k1_chk1 (tblOf (adm1 m) j)) :
    θ_run defs (onTc (τ := τ) (main (F := F))) ⟨m, fun _ => 0, ρ⟩ (fun r =>
      (∀ c : Dev nD, ∀ b ∈ Pipeline.ucRefs τ sig, r.2.mem (((c : Thread nD τ)).1, b) = B2 m c b) ∧ r.2.sem = fun _ => 0) :=
  Pipeline.θ_run_regions_kit_dev_sems (pcfgs (F := F)) (adm m) (pdats m) () (cellOf_inj (adm m)) emb₁ defs₀ Variants.none L lv m ρ main
    (fun _ => [.region (reg0 m), .region (reg1 m h)])
    (fun c Q => by rw [hmain m h c])
    (fun c => by simp only [Pipeline.Seg.pipes_host, Pipeline.Seg.pipes_region, Pipeline.Seg.pipes_nil]; decide) (O₀ := 0)
    (hL := fun g hg => if_neg hg) (G := fun _ => iprop(emp))
    (u₀ := u₀ m)
    (hu₀ := hu₀ m)
    (T₀ := fun c => iprop(StableHlo.held (c : Thread nD τ) (Pipeline.ucRefs τ sig) (B0 m c) ∗ E c))
    (Tₙ := fun c => StableHlo.held (c : Thread nD τ) (Pipeline.ucRefs τ sig) (B2 m c))
    (hch := fun c => ⟨pre0 m c, (post0 m c).trans (pre1' m h c),
      (post1 m h c).trans (sep_mono .rfl (by iintro ⟨HO, -⟩; iexact HO))⟩)
    (hinit := hinit m ρ)
    (QY := fun c s => ∀ b ∈ Pipeline.ucRefs τ sig, s.mem (((c : Thread nD τ)).1, b) = B2 m c b)
    (hfin := hfin m)
    (hQ := fun _ h hz => ⟨h, funext fun g => hz g (.inr (no_unscoped g.2))⟩)

end Run

end Cert.Proof.I

end
-- ==== Proof.EncBodyK.lean ====
/- The quantising call (custom_call 0) of `Kernel`: what its body stores, tile by tile, the body's triple, and the pipeline's
   proof data with its body obligation, from any contents of the unscoped buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-! ## One tile -/

/-- The upper ends of a tile, one for each row. -/
def tLmax (v : Vec F S256x128 .bf16) : Vec F S256x1 .f32 := k0_pay6 v
/-- The lower ends of a tile, one for each row. -/
def tLmin (v : Vec F S256x128 .bf16) : Vec F S256x1 .f32 := k0_pay7 v
/-- The codes of a tile. -/
def tCode (v : Vec F S256x128 .bf16) : Vec F S256x128 .i8 := k0_pay12 (k0_pay1 v) (k0_pay2 v) 126#32 (k0_pay9 v)
/-- The decoded elements of a tile. -/
def tDec (v : Vec F S256x128 .bf16) : Vec F S256x128 .bf16 :=
  k0_pay13 (k0_pay1 v) (k0_pay2 v) (k0_pay7 v) (k0_pay8 v) 126#32 (k0_pay9 v)

/-! ## The forty tiles of a block, last first -/

/-- Tile `39 - k` lies within a block of elements. -/
theorem inb_big (k : Fin 40) : ∀ a : Fin S256x5120.rank, (![0, (39 - k.val) * 128] : Fin 2 → ℕ) a + S256x128.size a ≤ S256x5120.size a :=
  fun a => match a with | ⟨0, _⟩ => Nat.le_refl 256 | ⟨1, _⟩ => (by have := k.isLt; show (39 - k.val) * 128 + 128 ≤ 5120; omega)

/-- Column `39 - k` lies within a block of ends. -/
theorem inb_small (k : Fin 40) : ∀ a : Fin S256x40.rank, (![0, 39 - k.val] : Fin 2 → ℕ) a + S256x1.size a ≤ S256x40.size a :=
  fun a => match a with | ⟨0, _⟩ => Nat.le_refl 256 | ⟨1, _⟩ => (by have := k.isLt; show (39 - k.val) + 1 ≤ 40; omega)

/-- The rectangle of tile `39 - k`. -/
abbrev rBig (k : Fin 40) : Rect S256x5120 := Rect.unit (s := S256x5120) ![0, (39 - k.val) * 128] S256x128.size (inb_big k)
/-- The rectangle of column `39 - k`. -/
abbrev rSmall (k : Fin 40) : Rect S256x40 := Rect.unit (s := S256x40) ![0, 39 - k.val] S256x1.size (inb_small k)

/-- Tile `39 - k` of a block. -/
abbrev tileLd (x0 : Vec F S256x5120 .bf16) (k : Fin 40) : Vec F S256x128 .bf16 := View.ld x0 (rBig k)

/-- The stores of codes. -/
abbrev L1 (x0 : Vec F S256x5120 .bf16) : List (View.Piece (Elt F) S256x5120 .i8) := List.ofFn fun k : Fin 40 => ⟨rBig k, tCode (tileLd x0 k)⟩
/-- The stores of lower ends. -/
abbrev L2 (x0 : Vec F S256x5120 .bf16) : List (View.Piece (Elt F) S256x40 .f32) := List.ofFn fun k : Fin 40 => ⟨rSmall k, tLmin (tileLd x0 k)⟩
/-- The stores of upper ends. -/
abbrev L3 (x0 : Vec F S256x5120 .bf16) : List (View.Piece (Elt F) S256x40 .f32) := List.ofFn fun k : Fin 40 => ⟨rSmall k, tLmax (tileLd x0 k)⟩
/-- The stores of decoded elements. -/
abbrev L4 (x0 : Vec F S256x5120 .bf16) : List (View.Piece (Elt F) S256x5120 .bf16) := List.ofFn fun k : Fin 40 => ⟨rBig k, tDec (tileLd x0 k)⟩

/-- The codes of a block after the body. -/
def out1 (x0 : Vec F S256x5120 .bf16) : Vec F S256x5120 .i8 := View.canon (L1 x0)
/-- The lower ends of a block after the body. -/
def out2 (x0 : Vec F S256x5120 .bf16) : Vec F S256x40 .f32 := View.canon (L2 x0)
/-- The upper ends of a block after the body. -/
def out3 (x0 : Vec F S256x5120 .bf16) : Vec F S256x40 .f32 := View.canon (L3 x0)
/-- The decoded elements of a block after the body. -/
def out4 (x0 : Vec F S256x5120 .bf16) : Vec F S256x5120 .bf16 := View.canon (L4 x0)

/-- Some tile holds each element. -/
theorem cover_big (y : S256x5120.Idx) : ∃ k : Fin 40, ∀ a : Fin S256x5120.rank,
    (![0, (39 - k.val) * 128] : Fin 2 → ℕ) a ≤ y a ∧ (y a).val < (![0, (39 - k.val) * 128] : Fin 2 → ℕ) a + S256x128.size a := by
  have h0 : (y 0).val < 256 := (y 0).isLt
  have h1 : (y 1).val < 5120 := (y 1).isLt
  refine ⟨⟨39 - (y 1).val / 128, by omega⟩, fun a => match a with
    | ⟨0, _⟩ => ⟨Nat.zero_le _, by show (y 0).val < 0 + 256; omega⟩
    | ⟨1, _⟩ => ⟨?_, ?_⟩⟩
  · show (39 - (39 - (y 1).val / 128)) * 128 ≤ (y 1).val; omega
  · show (y 1).val < (39 - (39 - (y 1).val / 128)) * 128 + 128; omega

/-- Some column holds each tile's end. -/
theorem cover_small (y : S256x40.Idx) : ∃ k : Fin 40, ∀ a : Fin S256x40.rank,
    (![0, 39 - k.val] : Fin 2 → ℕ) a ≤ y a ∧ (y a).val < (![0, 39 - k.val] : Fin 2 → ℕ) a + S256x1.size a := by
  have h0 : (y 0).val < 256 := (y 0).isLt
  have h1 : (y 1).val < 40 := (y 1).isLt
  refine ⟨⟨39 - (y 1).val, by omega⟩, fun a => match a with
    | ⟨0, _⟩ => ⟨Nat.zero_le _, by show (y 0).val < 0 + 256; omega⟩
    | ⟨1, _⟩ => ⟨?_, ?_⟩⟩
  · show 39 - (39 - (y 1).val) ≤ (y 1).val; omega
  · show (y 1).val < 39 - (39 - (y 1).val) + 1; omega

/-- Stores through the tiles' rectangles cover a block of elements. -/
theorem covers_big {e : EltTy} (g : Fin 40 → S256x128.Idx → Elt F e) (y : S256x5120.Idx) :
    ∃ p ∈ (List.ofFn fun k : Fin 40 => (⟨rBig k, g k⟩ : View.Piece (Elt F) S256x5120 e)), y ∈ p.1.set :=
  (cover_big y).elim fun k h => ⟨_, List.mem_ofFn.mpr ⟨k, rfl⟩, (Rect.mem_set_unit (inb := inb_big k)).mpr h⟩

/-- Stores through the columns' rectangles cover a block of ends. -/
theorem covers_small {e : EltTy} (g : Fin 40 → S256x1.Idx → Elt F e) (y : S256x40.Idx) :
    ∃ p ∈ (List.ofFn fun k : Fin 40 => (⟨rSmall k, g k⟩ : View.Piece (Elt F) S256x40 e)), y ∈ p.1.set :=
  (cover_small y).elim fun k h => ⟨_, List.mem_ofFn.mpr ⟨k, rfl⟩, (Rect.mem_set_unit (inb := inb_small k)).mpr h⟩

/-- What a list of stores leaves, when it is a covering family. -/
theorem read_writes_of_eq {κ} {sp : Space} {s : Shape} {e : EltTy} (v : View sig κ sp s e) (f : v.ty.Contents (Elt F)) (L L' : List (View.Piece (Elt F) s e))
    (hL : L = L') (hc : ∀ y, ∃ p ∈ L', y ∈ p.1.set) : v.read (Elt F) (v.writes (Elt F) f L) = View.canon L' := by
  subst hL; exact View.read_writes_eq_canon _ _ _ hc

/-! ## The body's triple -/

set_option maxHeartbeats 2352000 in
/-- The body on whole staging memrefs, the input's at `x0` and the outputs' at anything, leaves the input's as it was and
    each output's at its function of `x0`. -/
theorem sound_kernel (c : Dev nD) (E : Set ℕ) (i : grid0.Coords) (arg1 : Memref sig .tc .vmem S256x5120 .bf16) (harg1 : arg1.IsWhole)
    (arg2 : Memref sig .tc .vmem S256x5120 .i8) (harg2 : arg2.IsWhole) (arg3 : Memref sig .tc .vmem S256x40 .f32) (harg3 : arg3.IsWhole)
    (arg4 : Memref sig .tc .vmem S256x40 .f32) (harg4 : arg4.IsWhole) (arg5 : Memref sig .tc .vmem S256x5120 .bf16) (harg5 : arg5.IsWhole)
    (x0 : Vec F S256x5120 .bf16) (K : PUnit → sProp (MT nD τ sig Unit (Elt F) ℕ (UR sig nD τ) ℕ)) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (out1 x0) ∗ owns (c : Thread nD τ) arg3 fullShare (out2 x0) ∗ owns (c : Thread nD τ) arg4 fullShare (out3 x0) ∗ owns (c : Thread nD τ) arg5 fullShare (out4 x0)) -∗ K ⟨⟩))
      ⊢ wp frame (wpE (defs₀ (F := F)) Variants.none c none) E (cc0__encode_body i arg1 harg1 arg2 harg2 arg3 harg3 arg4 harg4 arg5 harg5) K := by
  simp only [cc0__encode_body_eq_skeleton]; unfold cc0__encode_body_skel
  simp only [
    k0_part73_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton, k0_part34_eq_skeleton,
    k0_part35_eq_skeleton, k0_part36_eq_skeleton, k0_part37_eq_skeleton, k0_part38_eq_skeleton, k0_part39_eq_skeleton,
    k0_part40_eq_skeleton, k0_part41_eq_skeleton, k0_part42_eq_skeleton, k0_part43_eq_skeleton, k0_part44_eq_skeleton,
    k0_part45_eq_skeleton, k0_part46_eq_skeleton, k0_part47_eq_skeleton, k0_part48_eq_skeleton, k0_part49_eq_skeleton,
    k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton,
    k0_part60_eq_skeleton, k0_part61_eq_skeleton, k0_part62_eq_skeleton, k0_part63_eq_skeleton, k0_part64_eq_skeleton,
    k0_part65_eq_skeleton, k0_part66_eq_skeleton, k0_part67_eq_skeleton, k0_part68_eq_skeleton, k0_part69_eq_skeleton,
    k0_part70_eq_skeleton, k0_part71_eq_skeleton, k0_part72_eq_skeleton]
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    refine read_writes_of_eq _ _ _ (L1 _) ?_ (covers_big _)
    sl_kernel_rfl
  isplitl [H2]
  · iexists _; isplitr
    swap; · iexact H2
    ipureintro
    refine read_writes_of_eq _ _ _ (L2 _) ?_ (covers_small _)
    sl_kernel_rfl
  isplitl [H3]
  · iexists _; isplitr
    swap; · iexact H3
    ipureintro
    refine read_writes_of_eq _ _ _ (L3 _) ?_ (covers_small _)
    sl_kernel_rfl
  iexists _; isplitr
  swap; · iexact H4
  ipureintro
  refine read_writes_of_eq _ _ _ (L4 _) ?_ (covers_big _)
  sl_kernel_rfl

/-! ## The pipeline's proof data -/

variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the call finds them, each output's buffer at its function of the input's block. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => out1 (iblk V c 0 t)
    | ⟨2, _⟩ => out2 (iblk V c 0 t)
    | ⟨3, _⟩ => out3 (iblk V c 0 t)
    | ⟨4, _⟩ => out4 (iblk V c 0 t)
  Φ _ := Pipeline.ΦA spec0 c
  q _ := fullShare
  owed _ := 0

/-- The arrays are as the call finds them. -/
theorem A0_eq (c : Dev nD) (w : Fin cfg0.W) : (dat0 V c).A w = V c (Pipeline.arrRef spec0 w) := by dsimp only [dat0]
/-- What each buffer of the encoder holds after a point: the argument's block as read, -/
theorem after0_0 (c : Dev nD) (t : Fin cfg0.N) : (dat0 V c).after 0 t = iblk V c 0 t := by dsimp only [dat0]
/-- the codes, -/
theorem after0_1 (c : Dev nD) (t : Fin cfg0.N) : (dat0 V c).after 1 t = out1 (iblk V c 0 t) := by dsimp only [dat0]
/-- the lower ends, -/
theorem after0_2 (c : Dev nD) (t : Fin cfg0.N) : (dat0 V c).after 2 t = out2 (iblk V c 0 t) := by dsimp only [dat0]
/-- the upper ends, -/
theorem after0_3 (c : Dev nD) (t : Fin cfg0.N) : (dat0 V c).after 3 t = out3 (iblk V c 0 t) := by dsimp only [dat0]
/-- and the decoded elements. -/
theorem after0_4 (c : Dev nD) (t : Fin cfg0.N) : (dat0 V c).after 4 t = out4 (iblk V c 0 t) := by dsimp only [dat0]

/-- The input's staging buffer holds its block at every point. -/
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A0_eq]; try rfl) t d).trans
    (by unfold Dat.fetched Dat.blockOf iblk; rw [A0_eq]; try rfl)

/-! ## The body obligation -/

/-- What the body is called with at point `t`, the windows one by one. -/
def bodyPre (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns. -/
def bodyPost (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) V c) (defs₀ (F := F)) Variants.none () Set.univ := fun t => by
  rw [bigSep_W0, bigSep_W0, defs₀_row]
  exact triple_restated (sound_body V c t) rfl .rfl fun _ => .rfl

end Cert.Proof.K

end
-- ==== Proof.GatK.lean ====
/- The gather (custom_call 1) of `Kernel`: one trip of its loop, the loop, and the body's triple. -/
module

public import proofs.«01_k».proof.Proof.EncBodyK
public import proofs.«01_k».proof.Proof.Gen.Kernel.Loops
public import Idealize.ShloMosaic.Lib.Pointwise
public import Idealize.ShloMosaic.Lib.Pipeline.ValueKit

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-! ## What the gather stores -/

/-- Entry `n` of the row table. -/
def wordAt (tbl : Vec F S16384 .i32) (n : ℕ) : Elt F .i32 := tbl (ix1 ⟨n % 16384, Nat.mod_lt _ (by decide)⟩)

/-- The pair of rows of a block of decoded elements that holds row `w`. -/
def pairAt (d : Vec F S8192x640 .bf16) (w : BitVec 32) : Vec F S2x640 .bf16 :=
  fun x => d (ix2 ⟨(k1_off3 w 0 + (x 0).val) % 8192, Nat.mod_lt _ (by decide)⟩ (x 1))

/-- The pair of gathered rows from entries `n` and `n + 1` of the table. -/
def gRows (tbl : Vec F S16384 .i32) (d : Vec F S8192x640 .bf16) (n : ℕ) : Vec F S2x640 .bf16 :=
  k1_pay1 (wordAt tbl n) (wordAt tbl (n + 1)) (pairAt d (wordAt tbl n)) (pairAt d (wordAt tbl (n + 1)))

/-- The block of 512 gathered rows from entry `512 q` of the table on. -/
def gBlk (tbl : Vec F S16384 .i32) (d : Vec F S8192x640 .bf16) (q : ℕ) : Vec F S512x640 .bf16 :=
  fun y => gRows tbl d (512 * q + 2 * ((y 0).val / 2)) (ix2 ⟨(y 0).val % 2, Nat.mod_lt _ (by decide)⟩ (y 1))

/-- Loading two rows at an admissible word is taking its pair. -/
theorem ld_pair (d : Vec F S8192x640 .bf16) (w : BitVec 32) (h : ∀ a, k1_off3 w a + S2x640.size a ≤ S8192x640.size a) :
    View.ld d (Rect.unit (s := S8192x640) (k1_off3 w) S2x640.size h) = pairAt d w := funext fun x => by
  have h0 : k1_off3 w 0 + 2 ≤ 8192 := h 0
  have hx : (x 0).val < 2 := (x 0).isLt
  exact View.ld_unit_apply_of d _ _ h _ _ fun a => match a with
    | ⟨0, _⟩ => Nat.mod_eq_of_lt (by show k1_off3 w 0 + (x 0).val < 8192; omega)
    | ⟨1, _⟩ => (Nat.zero_add _).symm

/-- Reading one entry of the table at an in-range offset. -/
theorem ld_word (tbl : Vec F S16384 .i32) (off : Fin 1 → ℕ) (n : ℕ) (e : off = ![n]) (h : ∀ a, off a + S1.size a ≤ S16384.size a) (x) :
    View.ld tbl (Rect.unit (s := S16384) off S1.size h) x = wordAt tbl n := by
  subst e
  have h0 : n + 1 ≤ 16384 := h 0
  have hx : (x 0).val < 1 := (x 0).isLt
  exact View.ld_unit_apply_of tbl _ _ h _ _ fun a => match a with
    | ⟨0, _⟩ => (Nat.mod_eq_of_lt (by omega)).trans (by show n = n + (x 0).val; omega)

/-- A trip's payload from what it read. -/
theorem pay_eq (tbl : Vec F S16384 .i32) (d : Vec F S8192x640 .bf16) (n : ℕ) (w1 w2 : Elt F .i32) (e1 : w1 = wordAt tbl n) (e2 : w2 = wordAt tbl (n + 1))
    (h1 : k1_chk1 w1) (h2 : k1_chk2 w2) :
    k1_pay1 w1 w2 (View.ld d (Rect.unit (s := S8192x640) (k1_off3 w1) S2x640.size h1)) (View.ld d (Rect.unit (s := S8192x640) (k1_off4 w2) S2x640.size h2))
      = gRows tbl d n := by
  subst e1 e2
  exact congrArg₂ (k1_pay1 _ _) (ld_pair d _ h1) (ld_pair d _ h2)

section Trip

variable (c : Dev nD) (i : grid1.Coords) (arg2 : Memref sig .tc .smem S16384 .i32) (harg2 : arg2.IsWhole)
  (arg3 : Memref sig .tc .vmem S8192x640 .bf16) (harg3 : arg3.IsWhole) (arg4 : Memref sig .tc .vmem S512x640 .bf16) (harg4 : arg4.IsWhole)

/-- One trip: from the table, the decoded block and the output's buffer, the buffer with one pair of gathered rows stored. -/
theorem trip (t : Fin k1_t1_loop.trips) (f2 : Buf (Elt F) (arg2.view.loc (c : Thread nD τ))) (f3 : Buf (Elt F) (arg3.view.loc (c : Thread nD τ)))
    (f4 : Buf (Elt F) (arg4.view.loc (c : Thread nD τ)))
    (h1 : ∀ (r : Rect S16384) x, k1_chk1 (View.readAt (Elt F) arg2.view r.toLoadRect f2 x))
    (h2 : ∀ (r : Rect S16384) x, k1_chk2 (View.readAt (Elt F) arg2.view r.toLoadRect f2 x)) (acc : Unit) :
    (iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4)) : sProp (MT nD τ sig Unit (Elt F) ℕ (UR sig nD τ) ℕ))
      ⊢ wp frame (wpE (defs₀ (F := F)) Variants.none c none) Set.univ
        (k1_t1_body (F := F) i arg2 harg2 arg3 harg3 arg4 harg4 t acc)
        (fun _ => iprop((arg2.view.loc (c : Thread nD τ) ↦[arg2.view.set]{fullShare} f2) ∗ (arg3.view.loc (c : Thread nD τ) ↦[arg3.view.set]{fullShare} f3)
        ∗ ∃ g : Buf (Elt F) (arg4.view.loc (c : Thread nD τ)), (arg4.view.loc (c : Thread nD τ) ↦[arg4.view.set]{fullShare} g) ∗ ⌜g = arg4.view.writes (Elt F) f4 [⟨Rect.unit (s := S512x640) (k1_off5 t) S2x640.size (k1_off5_inb t),
            gRows (View.read (Elt F) arg2.view f2) (View.read (Elt F) arg3.view f3) (512 * (i 1).val + 2 * t.val)⟩]⌝)) := by
  unfold k1_t1_body
  iintro ⟨H2, H3, H4⟩
  sl_exec (disch := first | exact h1 _ _ | exact h2 _ _)
  sl_step
  isplitl [H2]; · iexact H2
  isplitl [H3]; · iexact H3
  iexists _; isplitl [H4]; · iexact H4
  ipureintro
  refine congrArg (fun p => arg4.view.writes (Elt F) f4 [⟨Rect.unit (s := S512x640) (k1_off5 t) S2x640.size (k1_off5_inb t), p⟩]) ?_
  exact pay_eq _ _ _ _ _ (ld_word _ _ _ (k1_off1_eq i t) _ _) (ld_word _ _ _ (k1_off2_eq i t) _ _) (h1 _ _) (h2 _ _)

/-- The loop's invariant: the pairs stored so far read as the gathered block. -/
def inv (q : ℕ) (f2 : Buf (Elt F) (arg2.view.loc (c : Thread nD τ))) (f3 : Buf (Elt F) (arg3.view.loc (c : Thread nD τ))) (k : ℕ) (_ : Unit) : sProp (MT nD τ sig Unit (Elt F) ℕ (UR sig nD τ) ℕ) :=
  iprop((arg2.view.loc (c : Thread nD τ) ↦[arg2.view.set]{fullShare} f2) ∗ (arg3.view.loc (c : Thread nD τ) ↦[arg3.view.set]{fullShare} f3)
    ∗ ∃ g : Buf (Elt F) (arg4.view.loc (c : Thread nD τ)), (arg4.view.loc (c : Thread nD τ) ↦[arg4.view.set]{fullShare} g) ∗ ⌜∀ y : S512x640.Idx, (y 0).val < 2 * k →
      View.read (Elt F) arg4.view g y = gBlk (View.read (Elt F) arg2.view f2) (View.read (Elt F) arg3.view f3) q y⌝)

/-- Storing pair `t` makes the first `t + 1` pairs read as the gathered block. -/
theorem stored (t : Fin k1_t1_loop.trips) (q : ℕ) (tbl : Vec F S16384 .i32) (d : Vec F S8192x640 .bf16) (f : Buf (Elt F) (arg4.view.loc (c : Thread nD τ)))
    (h : ∀ y : S512x640.Idx, (y 0).val < 2 * t.val → View.read (Elt F) arg4.view f y = gBlk tbl d q y) (y : S512x640.Idx) (hy : (y 0).val < 2 * (t.val + 1)) :
    View.read (Elt F) arg4.view (arg4.view.writes (Elt F) f [⟨Rect.unit (s := S512x640) (k1_off5 t) S2x640.size (k1_off5_inb t), gRows tbl d (512 * q + 2 * t.val)⟩]) y
      = gBlk tbl d q y := by
  have e := k1_off5_eq t
  have e0 : k1_off5 t 0 = 2 * t.val := congrFun e 0
  have e1 : k1_off5 t 1 = 0 := congrFun e 1
  have hy1 : (y 1).val < 640 := (y 1).isLt
  by_cases hlt : (y 0).val < 2 * t.val
  · refine (View.read_writes_apply_of_forall_not_mem _ _ y _ fun p hp hm => ?_).trans (h y hlt)
    obtain rfl := List.mem_singleton.mp hp
    have := ((Rect.mem_set_unit (inb := k1_off5_inb t)).mp hm 0).1
    rw [e0] at this
    omega
  · refine View.read_writes_apply_of_pieces _ _ _ _ (fun p hp x => ?_) y ⟨_, List.mem_singleton.mpr rfl, (Rect.mem_set_unit (inb := k1_off5_inb t)).mpr fun a => match a with
      | ⟨0, _⟩ => ?_
      | ⟨1, _⟩ => ?_⟩
    · obtain rfl := List.mem_singleton.mp hp
      have hx0 : (x 0).val < 2 := (x 0).isLt
      have v0 : (((Rect.unit (s := S512x640) (k1_off5 t) S2x640.size (k1_off5_inb t)).emb x) 0).val = 2 * t.val + (x 0).val := by
        rw [ValueKit.rect_emb_unit_val, e0]
      have v1 : (((Rect.unit (s := S512x640) (k1_off5 t) S2x640.size (k1_off5_inb t)).emb x) 1).val = (x 1).val := by
        rw [ValueKit.rect_emb_unit_val, e1, Nat.zero_add]
      unfold gBlk
      generalize (Rect.unit (s := S512x640) (k1_off5 t) S2x640.size (k1_off5_inb t)).emb x = z at v0 v1
      rw [show (z 0).val / 2 = t.val by omega]
      refine congrArg _ ((eq_ix2 x).trans (congrArg₂ ix2 (Fin.ext ?_) (Fin.ext v1.symm)))
      show (x 0).val = (z 0).val % 2
      omega
    · show k1_off5 t 0 ≤ (y 0).val ∧ (y 0).val < k1_off5 t 0 + 2
      omega
    · show k1_off5 t 1 ≤ (y 1).val ∧ (y 1).val < k1_off5 t 1 + 640
      omega

/-- The loop runs 256 trips. -/
theorem trips_eq : k1_t1_loop.trips = 256 := by decide

/-- The body: from the table, the decoded block and the output's buffer at anything, the buffer at the gathered block. -/
theorem sound_gather (tbl : Vec F S16384 .i32) (d : Vec F S8192x640 .bf16) (h1 : ∀ j, k1_chk1 (tbl j)) (K : PUnit → sProp (MT nD τ sig Unit (Elt F) ℕ (UR sig nD τ) ℕ)) :
    iprop(owns (c : Thread nD τ) arg2 fullShare tbl ∗ owns (c : Thread nD τ) arg3 fullShare d ∗ (∃ v, owns (c : Thread nD τ) arg4 fullShare v)
        ∗ (iprop(owns (c : Thread nD τ) arg2 fullShare tbl ∗ owns (c : Thread nD τ) arg3 fullShare d ∗ owns (c : Thread nD τ) arg4 fullShare (gBlk tbl d (i 1).val)) -∗ K ⟨⟩))
      ⊢ wp frame (wpE (defs₀ (F := F)) Variants.none c none) Set.univ (cc1__gather_body i arg2 harg2 arg3 harg3 arg4 harg4) K := by
  simp only [cc1__gather_body_eq_skeleton]; unfold cc1__gather_body_skel owns
  iintro ⟨⟨%f2, %e2, H2⟩, ⟨%f3, %e3, H3⟩, ⟨%v, %f4, -, H4⟩, Hk⟩
  subst e2 e3
  iapply (Scf.wp_for_bind frame (wpE (defs₀ (F := F)) Variants.none c none) Set.univ _ _ _ _ _ _ (inv c arg2 arg3 arg4 (i 1).val f2 f3) ?_) $$ [H2 H3 H4]
  · intro k acc
    unfold inv
    iintro ⟨H2, H3, %g, H4, %hg⟩
    iapply (wp_wand_r Idealize.ShloMosaic.frame (wpE (defs₀ (F := F)) Variants.none c none) Set.univ)
    isplitl [H2 H3 H4]
    · iapply (trip c i arg2 harg2 arg3 harg3 arg4 harg4 k f2 f3 g (fun r x => h1 _) (fun r x => h1 _) acc)
      isplitl [H2]; · iexact H2
      isplitl [H3]; · iexact H3
      iexact H4
    · iintro %_ ⟨H2, H3, %g', H4, %e⟩
      isplitl [H2]; · iexact H2
      isplitl [H3]; · iexact H3
      iexists g'; isplitl [H4]; · iexact H4
      ipureintro
      subst e
      exact stored c arg4 k (i 1).val _ _ g hg
  · unfold inv
    isplitl [H2]; · iexact H2
    isplitl [H3]; · iexact H3
    iexists f4; isplitl [H4]; · iexact H4
    ipureintro
    intro y hy; exact absurd hy (Nat.not_lt_zero _)
  iintro %_ Hi
  unfold inv
  icases Hi with ⟨H2, H3, %g, H4, %hg⟩
  sl_step
  iapply Hk
  isplitl [H2]
  · iexists f2; isplitr; · ipureintro; rfl
    iexact H2
  isplitl [H3]
  · iexists f3; isplitr; · ipureintro; rfl
    iexact H3
  iexists g; isplitr
  swap; · iexact H4
  ipureintro
  exact funext fun y => hg y (by have : (y 0).val < 512 := (y 0).isLt; have : Scf.trips k1_t1_loop.lb k1_t1_loop.ub k1_t1_loop.st = 256 := trips_eq; omega)

end Trip

end Cert.Proof.K

end
-- ==== Proof.RegK.lean ====
/- The gather's pipeline and the run of `Kernel`: the proof data of the gather, its body obligation, the two region
   records, and what the whole program leaves in its unscoped buffers. -/
module

public import proofs.«01_k».proof.Proof.GatK
public import proofs.«01_k».proof.Proof.Gen.Kernel.Launch
public import Idealize.ShloMosaic.Lib.Pipeline.Frame
public import Idealize.ShloMosaic.Lib.Pipeline.Regions
public import Idealize.ShloMosaic.Lib.Pipeline.RegionArraysTS

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [BitOps F]

/-! ## The gather's proof data -/

section Gather

variable (a : (pcfg1 (F := F)).Adm)
variable (V : (c : Dev nD) → (b : Ref sig .tc) → Buf (Elt F) ((c : Thread nD τ).loc b))

/-- The row table, the one table the gather prefetches. -/
def tblOf : Vec F S16384 .i32 := a.1 0

/-- Window `w`'s block at point `t` of the gather, read off its array as the call finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The proof data: the decoded array and the result as the call finds them, the result's buffer at the gathered block,
    the table held whole throughout. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => gBlk (tblOf a) (iblk1 a V c 0 t) (grid1.coords t 1).val
  Φ _ := iprop(Pipeline.ΦA spec1 c ∗ Pipeline.prefHeld pre1 c (fun _ => fullShare) a.1)
  q _ := fullShare
  owed _ := 0

/-- The gather's arrays are as the call finds them. -/
theorem A1_eq (c : Dev nD) (w : Fin (cfg1 a).W) : (dat1 a V c).A w = V c (Pipeline.arrRef spec1 w) := by dsimp only [dat1]
/-- What each buffer of the gather holds after a point: the decoded block as read, -/
theorem after1_0 (c : Dev nD) (t : Fin (cfg1 a).N) : (dat1 a V c).after 0 t = iblk1 a V c 0 t := rfl
/-- and the gathered block. -/
theorem after1_1 (c : Dev nD) (t : Fin (cfg1 a).N) :
    (dat1 a V c).after 1 t = gBlk (tblOf a) (iblk1 a V c 0 t) (grid1.coords t 1).val := rfl

/-- The decoded block's buffer holds its block at every point, whether or not it was fetched there. -/
theorem before1_0 (c : Dev nD) (t : Fin (cfg1 a).N) (d) : (dat1 a V c).before 0 t d = iblk1 a V c 0 t :=
  ((dat1 a V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)

/-- The one table, held whole. -/
theorem prefHeld1 (c : Dev nD) : (Pipeline.prefHeld pre1 c (fun _ => fullShare) a.1 : sProp (MT nD τ sig Unit (Elt F) ℕ (UR sig nD τ) ℕ))
    = owns (c : Thread nD τ) (Memref.whole main_arg1) fullShare (tblOf a) := by
  rw [owns_whole]
  unfold Pipeline.prefHeld
  rw [show (Finset.univ : Finset (Fin pre1.K)) = {0} from by decide, bigSep_singleton]
  rfl

/-- The gather's body at the point `t`, at its current staging buffers. -/
abbrev bodyAt1 (t : Fin (cfg1 a).N) : Prog (TpuEff nD τ sig (Elt F) Λ₀ .tc) PUnit :=
  cc1__gather_body (grid1.coords t) (Memref.whole main_arg1) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))

/-- What the body is called with at point `t`, the windows one by one. -/
def bodyPre1 (c : Dev nD) (t : Fin (cfg1 a).N) : sProp (MT nD τ sig Unit (Elt F) ℕ (UR sig nD τ) ℕ) :=
  iprop((dat1 a V c).Φ t.castSucc ∗ (dat1 a V c).owesAt () t.castSucc
    ∗ (∃ d, owns (c : Thread nD τ) (spec1_0.stage ((cfg1 a).slots t 0)) fullShare ((dat1 a V c).before 0 t d))
    ∗ (∃ d, owns (c : Thread nD τ) (spec1_1.stage ((cfg1 a).slots t 1)) fullShare ((dat1 a V c).before 1 t d)))

/-- What it returns. -/
def bodyPost1 (c : Dev nD) (t : Fin (cfg1 a).N) : sProp (MT nD τ sig Unit (Elt F) ℕ (UR sig nD τ) ℕ) :=
  iprop((dat1 a V c).Φ t.succ ∗ (dat1 a V c).owesAt () t.succ
    ∗ owns (c : Thread nD τ) (spec1_0.stage ((cfg1 a).slots t 0)) fullShare ((dat1 a V c).after 0 t)
    ∗ owns (c : Thread nD τ) (spec1_1.stage ((cfg1 a).slots t 1)) fullShare ((dat1 a V c).after 1 t))

/-- The body at any point, every word of the table naming a row of the array. -/
theorem sound_body1 (h : ∀ j, k1_chk1 (tblOf a j)) (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0]
  rw [show (dat1 a V c).Φ t.succ = (dat1 a V c).Φ t.castSucc from rfl,
    show (dat1 a V c).owesAt () t.succ = (dat1 a V c).owesAt () t.castSucc from rfl,
    after1_0, after1_1,
    show (dat1 a V c).Φ t.castSucc = iprop(Pipeline.ΦA spec1 c ∗ Pipeline.prefHeld pre1 c (fun _ => fullShare) a.1) from rfl, prefHeld1]
  iintro ⟨⟨HΦ, HT⟩, Ho, ⟨%d0, H0⟩, ⟨%d1, H1⟩⟩
  iapply (sound_gather c (grid1.coords t) _ _ _ _ _ _ (tblOf a) (iblk1 a V c 0 t) h _)
  isplitl [HT]; · iexact HT
  isplitl [H0]; · iexact H0
  isplitl [H1]; · iexists _; iexact H1
  iintro ⟨HT, H0, H1⟩
  isplitl [HΦ HT]
  · isplitl [HΦ]; · iexact HΦ
    iexact HT
  isplitl [Ho]; · iexact Ho
  isplitl [H0]; · iexact H0
  iexact H1

/-- The body table's row at point `t`'s slots. -/
theorem defs₀_row1 (t : Fin (cfg1 a).N) :
    defs₀ (F := F) .tc (cfg1 a).body ((cfg1 a).bodyArgs t ((cfg1 a).slots t)) = bodyAt1 a t := by
  unfold defs₀; rw [Defs.onTc_tc]

/-- The gather's body obligation, at every point. -/
theorem body_obligation1 (h : ∀ j, k1_chk1 (tblOf a j)) (c : Dev nD) :
    BodyObligation (dat1 a V c) (defs₀ (F := F)) Variants.none () Set.univ := fun t => by
  rw [bigSep_W1, bigSep_W1, defs₀_row1]
  exact triple_restated (sound_body1 a V h c t) rfl .rfl fun _ => .rfl

end Gather

/-! ## The two regions -/

section Run

variable (m : (ℓ : Loc nD τ sig) → Buf (Elt F) ℓ)

/-- The contents of the row table at launch. -/
def tbl (m : (ℓ : Loc nD τ sig) → Buf (Elt F) ℓ) : pre1.Contents (Elt F) :=
  fun | 0 => m ((((0 : Dev nD) : Thread nD τ)).loc main_arg1) | ⟨_ + 1, h⟩ => absurd h (Nat.not_lt.2 (Nat.le_add_left _ _))

/-- Every contents of the table is admissible to the pipeline. -/
abbrev adm1 : (pcfg1 (F := F)).Adm := ⟨tbl m, trivial⟩

/-- The two pipelines' tables. -/
abbrev adm : (p : Fin 2) → (pcfgs (F := F) p).Adm := fun | ⟨0, _⟩ => cfg0.toPCfg_adm | ⟨1, _⟩ => adm1 m

/-- The unscoped buffers at launch. -/
abbrev B0 (c : Dev nD) : Valuation τ sig (Elt F) := fun b => m (c, b)
/-- The encoder's proof data at the launch's buffers. -/
abbrev d0 (c : Dev nD) : Dat τ (Elt F) Unit ℕ (UR sig nD τ) ℕ cfg0 c := dat0 (fun c b => B0 m c b) c
/-- The unscoped buffers after the encoder. -/
def B1 (c : Dev nD) : Valuation τ sig (Elt F) := Pipeline.afterRegion (d0 m c) (B0 m c)
/-- The gather's proof data at what the encoder leaves. -/
abbrev d1 (c : Dev nD) : Dat τ (Elt F) Unit ℕ (UR sig nD τ) ℕ (cfg1 (adm1 m)) c := dat1 (adm1 m) (fun c b => B1 m c b) c
/-- The unscoped buffers after the gather. -/
def B2 (c : Dev nD) : Valuation τ sig (Elt F) := Pipeline.afterRegion (d1 m c) (B1 m c)

/-- The two pipelines' proof data. -/
def pdats : (p : Fin 2) → (c : Dev nD) → Dat τ (Elt F) Unit ℕ (UR sig nD τ) ℕ (Pipeline.pin (pcfgs (F := F)) (adm m) p) c :=
  fun | ⟨0, _⟩ => fun c => d0 m c | ⟨1, _⟩ => fun c => d1 m c

/-- No core owes another anything: one level for every cell, nothing assigned above it. -/
abbrev L : GSem nD τ sig → Finset Unit := fun g => if g.1.2 = .tc then {()} else ∅
/-- Every cell is at level zero. -/
abbrev lv : GSem nD τ sig → Unit → ℕ := fun _ _ => 0

/-- What rides beside the buffers: the core's dues, none, and its generator register. -/
abbrev E (c : Dev nD) : sProp (MT nD τ sig Unit (Elt F) ℕ (UR sig nD τ) ℕ) := iprop((∃ W, owes (c : Thread nD τ) (0 : CellTallies nD τ sig Unit) W) ∗ (∃ r, prngReg c r) ∗ emp)

/-- The levels for either region: every staging cell at level zero, nothing owed. -/
theorem levelCut (p : Fin 2) : Pipeline.LevelCut (pcfgs (F := F)) (adm m) () L lv p (fun _ : Dev nD => 0) (fun _ => 0) where
  hι c w s := by simp [L]
  hιb c w s := le_refl _
  hD c g i h := absurd h (lt_irrefl _)

/-- The encoder's region: entered from the unscoped buffers as launched, left with its four results written. -/
def reg0 : Pipeline.RegionSeg (pcfgs (F := F)) (adm m) (pdats m) () defs₀ Variants.none L lv 0 :=
  Pipeline.RegionSeg.ofHeldIn (pcfgs (F := F)) (adm m) (pdats m) () defs₀ Variants.none L lv 0 (fun _ => 0)
    (Pipeline.ucRefs τ sig) (fun c => iprop(∃ r, prngReg c r)) (fun c => iprop(∃ r, prngReg c r)) launch0 rfl
    (fun c => (body_obligation0 (fun c b => B0 m c b) c).loose) (fun _ _ => rfl) (fun _ => rfl)
    (fun c w => (d0 m c).share_full (fun _ => rfl) w)
    (fun c => .rfl) (fun c => .rfl) (fun _ => 0) (levelCut m 0) (fun _ => iprop(emp)) (B0 m)
    (fun c w => rfl)

/-- The encoder leaves the row table as launched. -/
theorem B1_arg1 (c : Dev nD) : B1 m c main_arg1 = m ((c : Thread nD τ).loc main_arg1) :=
  Pipeline.afterRegion_of_not_arr (d0 m c) (B0 m c) (b := main_arg1) (by decide)

/-- The gather finds the table as launched. -/
theorem hT (c : Dev nD) (k : Fin pre1.K) : tbl m k = B1 m c (Proc.devRef .tc (pre1.ref k)) := by
  obtain rfl : c = 0 := Subsingleton.elim _ _
  obtain rfl : k = 0 := Subsingleton.elim (α := Fin 1) _ _
  exact (B1_arg1 m 0).symm

/-- The gather's region, every word of the table naming a row of the array. -/
def reg1 (h : ∀ j, k1_chk1 (tblOf (adm1 m) j)) : Pipeline.RegionSeg (pcfgs (F := F)) (adm m) (pdats m) () defs₀ Variants.none L lv 1 :=
  Pipeline.RegionSeg.ofHeldInT (pcfgs (F := F)) (adm m) (pdats m) () defs₀ Variants.none L lv 1 (fun _ => 0)
    (Pipeline.ucRefs τ sig) (fun c => iprop(∃ r, prngReg c r)) (fun c => iprop(∃ r, prngReg c r)) launch1
    (fun c => (body_obligation1 (adm1 m) (fun c b => B1 m c b) h c).loose) (fun _ _ => rfl) (fun _ => rfl)
    (fun c w => (d1 m c).share_full (fun _ => rfl) w)
    (fun c => .rfl) (fun c => .rfl) (fun _ => 0) (levelCut m 1) (fun _ => iprop(emp)) (B1 m)
    (fun c w => rfl) (hT m)

/-- The encoder's arrays are unscoped buffers. -/
theorem arrRefs_sub0 : Pipeline.arrRefs (τ := τ) spec0 ⊆ Pipeline.ucRefs τ sig := Pipeline.arrRefs_sub_ucRefs spec0 (by decide)
/-- The gather's arrays are unscoped buffers. -/
theorem arrRefs_sub1 : Pipeline.arrRefs (τ := τ) spec1 ⊆ Pipeline.ucRefs τ sig := Pipeline.arrRefs_sub_ucRefs spec1 (by decide)
/-- The gather's table is an unscoped buffer. -/
theorem tblRefs_sub1 : Pipeline.tblRefs (τ := τ) pre1 ⊆ Pipeline.ucRefs τ sig := Pipeline.tblRefs_sub_ucRefs pre1 (by decide)

/-- The encoder's region is entered from the launch's buffers, -/
theorem pre0 (c : Dev nD) : iprop(StableHlo.held (c : Thread nD τ) (Pipeline.ucRefs τ sig) (B0 m c) ∗ E c) ⊢ (reg0 m).pre c :=
  Pipeline.RegionSeg.ofHeldIn_pre (pcs := pcfgs (F := F)) (a := adm m) (pdats := pdats m) (p := 0) (W := B0 m) (X := fun c => iprop(∃ r, prngReg c r)) (Y := fun c => iprop(∃ r, prngReg c r)) (R := fun _ => iprop(emp)) (D := fun _ => 0) arrRefs_sub0 c
/-- and left at what it writes over them. -/
theorem post0 (c : Dev nD) : (reg0 m).post c ⊢ iprop(StableHlo.held (c : Thread nD τ) (Pipeline.ucRefs τ sig) (B1 m c) ∗ E c) :=
  Pipeline.RegionSeg.ofHeldIn_post (pcs := pcfgs (F := F)) (a := adm m) (pdats := pdats m) (p := 0) (W := B0 m) (X := fun c => iprop(∃ r, prngReg c r)) (Y := fun c => iprop(∃ r, prngReg c r)) (R := fun _ => iprop(emp)) (D := fun _ => 0) arrRefs_sub0 c
/-- The gather's region is entered from what the encoder left, -/
theorem pre1' (h : ∀ j, k1_chk1 (tblOf (adm1 m) j)) (c : Dev nD) :
    iprop(StableHlo.held (c : Thread nD τ) (Pipeline.ucRefs τ sig) (B1 m c) ∗ E c) ⊢ (reg1 m h).pre c :=
  Pipeline.RegionSeg.ofHeldInT_pre (pcs := pcfgs (F := F)) (a := adm m) (pdats := pdats m) (p := 1) (W := B1 m) (X := fun c => iprop(∃ r, prngReg c r)) (Y := fun c => iprop(∃ r, prngReg c r)) (R := fun _ => iprop(emp)) (D := fun _ => 0) arrRefs_sub1 tblRefs_sub1 c
/-- and left at what it writes over that. -/
theorem post1 (h : ∀ j, k1_chk1 (tblOf (adm1 m) j)) (c : Dev nD) :
    (reg1 m h).post c ⊢ iprop(StableHlo.held (c : Thread nD τ) (Pipeline.ucRefs τ sig) (B2 m c) ∗ E c) :=
  Pipeline.RegionSeg.ofHeldInT_post (pcs := pcfgs (F := F)) (a := adm m) (pdats := pdats m) (p := 1) (W := B1 m) (X := fun c => iprop(∃ r, prngReg c r)) (Y := fun c => iprop(∃ r, prngReg c r)) (R := fun _ => iprop(emp)) (D := fun _ => 0) arrRefs_sub1 tblRefs_sub1 c

/-- The launch's ghost element: the staging cells of the two pipelines. -/
def u₀ : UR sig nD τ := initOf (Pipeline.cells (Pipeline.pin (pcfgs (F := F)) (adm m)) (cellOf_inj (adm m)))
  (Pipeline.launchToks (Pipeline.pin (pcfgs (F := F)) (adm m)) (cellOf_inj (adm m)))

/-- It is what the library asks for, beside nothing. -/
theorem hu₀ : (ownU (u₀ m) : sProp (MT nD τ sig Unit (Elt F) ℕ (UR sig nD τ) ℕ)) ⊢ |={Set.univ}=> iprop(BI.own (emb₁ (initOf (Pipeline.cells (Pipeline.pin (pcfgs (F := F)) (adm m)) (cellOf_inj (adm m)))
      (Pipeline.launchToks (Pipeline.pin (pcfgs (F := F)) (adm m)) (cellOf_inj (adm m))))) ∗ bigSep Finset.univ fun _ : Dev nD => (iprop(emp) : sProp (MT nD τ sig Unit (Elt F) ℕ (UR sig nD τ) ℕ))) := by
  iintro Hu; imodintro
  isplitl [Hu]; · iapply (show (ownU (u₀ m) : sProp (MT nD τ sig Unit (Elt F) ℕ (UR sig nD τ) ℕ)) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl); iexact Hu
  iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
  iempintro

/-- The launch makes the first thread state. -/
theorem hinit (ρ : Dev nD → PrngReg) :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ iprop(emp))) ∗ levAts L lv)
      ⊢ (|={Set.univ}=> bigSep Finset.univ (fun c : Dev nD => iprop(StableHlo.held (c : Thread nD τ) (Pipeline.ucRefs τ sig) (B0 m c) ∗ E c)) : sProp (MT nD τ sig Unit (Elt F) ℕ (UR sig nD τ) ℕ)) := by
  refine Pipeline.initEach L lv fun c => ?_
  rw [show unscopedBufs c (fun b => m ((c : Thread nD τ).loc b)) = StableHlo.held (c : Thread nD τ) (Pipeline.ucRefs τ sig) (B0 m c) from Pipeline.unscopedBufs_held c (B0 m c)]
  iintro ⟨⟨Hh, -, HO, -, Hp, -⟩, -⟩
  imodintro
  isplitl [Hh]; · iexact Hh
  isplitl [HO]; · iexists ∅; iexact HO
  isplitl [Hp]; · iexists _; iexact Hp
  iempintro

/-- What the last thread state says of the memory. -/
theorem hfin (c : Dev nD) (s' : Phys nD τ sig (Elt F)) :
    iprop(StableHlo.held (c : Thread nD τ) (Pipeline.ucRefs τ sig) (B2 m c) ∗ SI s')
      ⊢ (|={Set.univ}=> iprop(⌜∀ b ∈ Pipeline.ucRefs τ sig, s'.mem.mem (((c : Thread nD τ)).1, b) = B2 m c b⌝ ∗ SI s') : sProp (MT nD τ sig Unit (Elt F) ℕ (UR sig nD τ) ℕ)) := by
  unfold StableHlo.held
  iintro ⟨Hh, HSI⟩
  ihave Hr := (pointsTo_read_all (Pipeline.ucRefs τ sig) (fun b => ((c : Thread nD τ).1, b)) (B2 m c) s') $$ [Hh HSI]
  · isplitl [Hh] <;> iassumption
  imodintro
  iexact Hr

/-- @main is the run of the two regions. -/
theorem hmain (h : ∀ j, k1_chk1 (tblOf (adm1 m) j)) (c : Dev nD) :
    main (F := F) c = Pipeline.Seg.run [.region (reg0 m), .region (reg1 m h)] :=
  main_segs (adm m) (pdats m) () Variants.none L lv (reg0 m) (reg1 m h) c

/-- The TensorCore has no unscoped semaphore. -/
theorem no_unscoped : ∀ sm : SemLoc sig, sm.isScoped .tc = true := by decide

-- the library theorem's implicit arguments are found by unifying its conclusion with this one, which takes unfolding
-- plain definitions in a metavariable's type
set_option backward.isDefEq.respectTransparency.types false in
/-- Every word of the table naming a row of the array, every weakly fair execution from any memory with zero counters
    terminates, and every final state holds each unscoped buffer at what the two regions leave in it and every semaphore
    counter at zero. -/
theorem run_main (ρ : Dev nD → PrngReg) (h : ∀ j, k1_chk1 (tblOf (adm1 m) j)) :
    θ_run defs (onTc (τ := τ) (main (F := F))) ⟨m, fun _ => 0, ρ⟩ (fun r =>
      (∀ c : Dev nD, ∀ b ∈ Pipeline.ucRefs τ sig, r.2.mem (((c : Thread nD τ)).1, b) = B2 m c b) ∧ r.2.sem = fun _ => 0) :=
  Pipeline.θ_run_regions_kit_dev_sems (pcfgs (F := F)) (adm m) (pdats m) () (cellOf_inj (adm m)) emb₁ defs₀ Variants.none L lv m ρ main
    (fun _ => [.region (reg0 m), .region (reg1 m h)])
    (fun c Q => by rw [hmain m h c])
    (fun c => by simp only [Pipeline.Seg.pipes_host, Pipeline.Seg.pipes_region, Pipeline.Seg.pipes_nil]; decide) (O₀ := 0)
    (hL := fun g hg => if_neg hg) (G := fun _ => iprop(emp))
    (u₀ := u₀ m)
    (hu₀ := hu₀ m)
    (T₀ := fun c => iprop(StableHlo.held (c : Thread nD τ) (Pipeline.ucRefs τ sig) (B0 m c) ∗ E c))
    (Tₙ := fun c => StableHlo.held (c : Thread nD τ) (Pipeline.ucRefs τ sig) (B2 m c))
    (hch := fun c => ⟨pre0 m c, (post0 m c).trans (pre1' m h c),
      (post1 m h c).trans (sep_mono .rfl (by iintro ⟨HO, -⟩; iexact HO))⟩)
    (hinit := hinit m ρ)
    (QY := fun c s => ∀ b ∈ Pipeline.ucRefs τ sig, s.mem (((c : Thread nD τ)).1, b) = B2 m c b)
    (hfin := hfin m)
    (hQ := fun _ h hz => ⟨h, funext fun g => hz g (.inr (no_unscoped g.2))⟩)

end Run

end Cert.Proof.K

end
-- ==== Proof.Rows.lean ====
/- What the precondition says of the row table, and why a row number in range lets the gather read its pair of rows. -/
module

public import proofs.«01_k».proof.Defs
public import proofs.«01_k».proof.Proof.RegI
public import proofs.«01_k».proof.Proof.RegK
public import Idealize.ShloMosaic.Lib.ReduceAll

@[expose] public section

set_option maxRecDepth 16384

noncomputable section

namespace Cert.Proof.Rows

open Idealize.ShloMosaic

/-- The shape relations the precondition's text takes. -/
instance preFacts : Cert.Pre_rows_in_range.Facts := ⟨by decide, by decide, by decide⟩

/-- The precondition: every entry of the row table is a row number. -/
theorem lt_of_pre {F : FTy → Type} [FloatOps F] (x : FVec F Cert.Pre_rows_in_range.S8192x5120 .bf16) (r : IVec Cert.Pre_rows_in_range.S16384 32)
    (h : Cert.Pre_rows_in_range.fn x r = fun _ => 1#1) (j : Cert.Pre_rows_in_range.S16384.Idx) : (r j).toNat < 8192 := by
  haveI : Subsingleton Cert.Pre_rows_in_range.S_.Idx := ⟨fun a b => funext fun i => i.elim0⟩
  have e := congrFun h (Shape.Idx.first preFacts.h_S_)
  dsimp only [Cert.Pre_rows_in_range.fn] at e
  have e' := Host.reduce_andi_all _ _ _ _ _ e j
  obtain ⟨e1, e2⟩ := IntOp.andi_eq_one.1 e'
  have h1 : (0#32 : BitVec 32).toInt ≤ (r j).toInt := IntOp.cmpi_sge.1 e1
  have h2 : (r j).toInt < (8192#32 : BitVec 32).toInt := IntOp.cmpi_slt.1 e2
  rw [show (0#32 : BitVec 32).toInt = 0 by decide] at h1
  rw [show (8192#32 : BitVec 32).toInt = 8192 by decide] at h2
  rw [BitVec.toInt_eq_toNat_cond] at h1 h2
  split at h1 <;> omega

/-- Half a row number, rounded down, by an arithmetic shift. -/
theorem half (w : BitVec 32) (h : w.toNat < 8192) : (Scalar.shrsi w 1#32).toNat = w.toNat / 2 := by
  have e : Scalar.shrsi w 1#32 = w >>> 1 := by
    show w.sshiftRight 1 = w >>> 1
    exact BitVec.sshiftRight_eq_of_msb_false (by rw [BitVec.msb_eq_false_iff_two_mul_lt]; omega)
  rw [e, BitVec.toNat_ushiftRight, Nat.shiftRight_eq_div_pow]

/-- The pair of rows that holds row `w` begins at the even row at or below it. -/
theorem pairI (w : BitVec 32) (h : w.toNat < 8192) : Cert.KernelIdeal.k1_off3 w 0 = 2 * (w.toNat / 2) := by
  show 2 * (Scalar.shrsi w 1#32).toNat = _
  rw [half w h]

/-- A row number's pair of rows lies inside the block. -/
theorem chkI (w : BitVec 32) (h : w.toNat < 8192) : Cert.KernelIdeal.k1_chk1 w := fun a => match a with
  | ⟨0, _⟩ => by
    show 2 * (Scalar.shrsi w 1#32).toNat + 2 ≤ 8192
    rw [half w h]; omega
  | ⟨1, _⟩ => Nat.le_refl 640

/-- A row number's pair of rows lies inside the block, in the program over bit patterns. -/
theorem chkK (w : BitVec 32) (h : w.toNat < 8192) : Cert.Kernel.k1_chk1 w := fun a => match a with
  | ⟨0, _⟩ => by
    show 2 * (Scalar.shrsi w 1#32).toNat + _ ≤ _
    rw [half w h]
    first
      | (show 2 * (w.toNat / 2) + 2 ≤ 8192; omega)
      | (show 2 * (w.toNat / 2) + 1 ≤ 8192; omega)
  | ⟨1, _⟩ => Nat.le_refl 640

end Cert.Proof.Rows

end
-- ==== Proof.EndK.lean ====
/- What the run of `Kernel` leaves: the arguments as launched, and so the program's frame. -/
module

public import proofs.«01_k».proof.Proof.Rows

@[expose] public section

set_option maxRecDepth 16384

noncomputable section

namespace Cert.Proof.K

open Cert.Kernel Cert.Kernel.Gen
open Idealize.ShloMosaic Idealize.ShloMosaic.TcCoe
open Idealize.SL.Sem

variable {F : FTy → Type} [BitOps F]

section

variable (m : (ℓ : Loc nD τ sig) → Buf (Elt F) ℓ) (c : Dev nD)

/-- The encoder's windows are of different arrays. -/
theorem arr_inj0 : Function.Injective (Pipeline.arrRef spec0) := by decide
/-- The same of the gather's windows. -/
theorem arr_inj1 : Function.Injective (Pipeline.arrRef spec1) := by decide

/-- The argument is not an array of the gather. -/
theorem not_arr1_arg0 : ∀ w, main_arg0 ≠ Pipeline.arrRef spec1 w := by decide
/-- The same of the row table. -/
theorem not_arr1_arg1 : ∀ w, main_arg1 ≠ Pipeline.arrRef spec1 w := by decide

/-- The encoder reads its argument and leaves it, -/
theorem B1_arg0 : B1 m c main_arg0 = m ((c : Thread nD τ).loc main_arg0) :=
  (Pipeline.afterRegion_arr (d0 m c) (B0 m c) arr_inj0 0).trans ((d0 m c).arrAt_in 0 rfl _)

/-- and the gather does not touch it. -/
theorem B2_arg0 : B2 m c main_arg0 = m ((c : Thread nD τ).loc main_arg0) :=
  (Pipeline.afterRegion_of_not_arr (d1 m c) (B1 m c) (b := main_arg0) not_arr1_arg0).trans (B1_arg0 m c)

/-- The row table ends as launched. -/
theorem B2_arg1 : B2 m c main_arg1 = m ((c : Thread nD τ).loc main_arg1) :=
  (Pipeline.afterRegion_of_not_arr (d1 m c) (B1 m c) (b := main_arg1) not_arr1_arg1).trans (B1_arg1 m c)

/-- The argument is among the buffers the run speaks of. -/
theorem arg0_mem : (main_arg0 : DevRef τ sig) ∈ Pipeline.ucRefs τ sig := Finset.mem_filter.mpr ⟨StableHlo.devRef_mem_tcRefs main_arg0, by decide⟩
/-- The same of the row table. -/
theorem arg1_mem : (main_arg1 : DevRef τ sig) ∈ Pipeline.ucRefs τ sig := Finset.mem_filter.mpr ⟨StableHlo.devRef_mem_tcRefs main_arg1, by decide⟩

/-- Row numbers in range are all the gather asks of its table. -/
theorem chk (h : ∀ j, (m ((((0 : Dev nD) : Thread nD τ)).loc main_arg1) j : BitVec 32).toNat < 8192) (j) : k1_chk1 (tblOf (adm1 m) j) :=
  Rows.chkK _ (h j)

/-- The run's frame: both arguments as launched, every counter at zero. -/
theorem frame (ρ : Dev nD → PrngReg) (h : ∀ j, (m ((((0 : Dev nD) : Thread nD τ)).loc main_arg1) j : BitVec 32).toNat < 8192) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run _ _ _).mono (fun r e => ⟨fun c => ⟨(e.1 c main_arg0 arg0_mem).trans (B2_arg0 m c), (e.1 c main_arg1 arg1_mem).trans (B2_arg1 m c)⟩, e.2⟩)
    (run_main m ρ (chk m h))

end

end Cert.Proof.K

end
-- ==== Proof.GatValue.lean ====
/- The gathered block's elements: each row of the pair that a trip stores is the row its own table entry names. -/
module

public import proofs.«01_k».proof.Proof.Rows

@[expose] public section

set_option maxRecDepth 16384

noncomputable section

namespace Cert.Proof.GatValue

open Cert.KernelIdeal Cert.KernelIdeal.Gen Cert.Proof.I
open Idealize.ShloMosaic Idealize.ShloMosaic.TcCoe

variable {F : FTy → Type} [FloatOps F]

/-- The lowest bit of a word, as a remainder. -/
theorem odd (w : BitVec 32) : Scalar.cmpi .eq (Scalar.andi w 1#32) 1#32 = if w.toNat % 2 = 1 then 1#1 else 0#1 := by
  have e : (Scalar.andi w 1#32).toNat = w.toNat % 2 := by
    show (w &&& 1#32).toNat = _
    rw [BitVec.toNat_and]
    exact Nat.and_one_is_mod _
  show BitVec.ofBool (Scalar.andi w 1#32 == 1#32) = _
  have : (Scalar.andi w 1#32 == 1#32) = decide (w.toNat % 2 = 1) := by
    rw [Bool.eq_iff_iff, beq_iff_eq, decide_eq_true_iff, ← BitVec.toNat_inj, e]; rfl
  rw [this]
  by_cases h : w.toNat % 2 = 1 <;> simp [h]

/-- The row of a pair that the word's lowest bit chooses. -/
def half (d : Vec F S8192x640 .bf16) (w : BitVec 32) : S1x640.Idx → Elt F .bf16 :=
  Scalar.select (Scalar.cmpi .eq (Scalar.andi w 1#32) 1#32) (rowsOfParity 1 S1x640 (pairAt d w) bitcasts_S2x640_w16_S1x640_w32)
    (rowsOfParity 0 S1x640 (pairAt d w) bitcasts_S2x640_w16_S1x640_w32)

/-- The chosen row is row `w` of the block. -/
theorem half_at (d : Vec F S8192x640 .bf16) (w : BitVec 32) (h : w.toNat < 8192) (o : Fin 1) (j : Fin 640) :
    half d w (ix2 o j) = d (ix2 ⟨w.toNat, h⟩ j) := by
  have p := Rows.pairI w h
  have ho : o.val = 0 := by omega
  unfold half
  rw [odd]
  by_cases hw : w.toNat % 2 = 1
  · rw [if_pos hw]
    refine congrArg d (congrArg₂ ix2 (Fin.ext ?_) rfl)
    show (k1_off3 w 0 + (2 * o.val + 1)) % 8192 = w.toNat
    rw [p]; omega
  · rw [if_neg hw]
    refine congrArg d (congrArg₂ ix2 (Fin.ext ?_) rfl)
    show (k1_off3 w 0 + (2 * o.val + 0)) % 8192 = w.toNat
    rw [p]; omega

/-- Two rows interleaved: the first is the first half's. -/
theorem interleave_zero {α : Type} (lo hi : S1x640.Idx → α) (h : S2x640.Bitcasts 16 S1x640 32) (j : Fin 640) :
    interleaveRows S2x640 lo hi h (ix2 0 j) = lo (ix2 0 j) := by
  pointwise

/-- Two rows interleaved: the second is the second half's. -/
theorem interleave_one {α : Type} (lo hi : S1x640.Idx → α) (h : S2x640.Bitcasts 16 S1x640 32) (j : Fin 640) :
    interleaveRows S2x640 lo hi h (ix2 1 j) = hi (ix2 0 j) := by
  pointwise

/-- The pair a trip stores, its two rows the chosen ones. -/
theorem gRows_eq (tbl : Vec F S16384 .i32) (d : Vec F S8192x640 .bf16) (n : ℕ) :
    gRows tbl d n = interleaveRows S2x640 (half d (wordAt tbl n)) (half d (wordAt tbl (n + 1))) bitcasts_S2x640_w16_S1x640_w32 := rfl

/-- Row `p` of the pair a trip stores: row `w` of the block, `w` the table's entry `n + p`. -/
theorem gRows_at (tbl : Vec F S16384 .i32) (d : Vec F S8192x640 .bf16) (n : ℕ) (h : ∀ k, (wordAt tbl k : BitVec 32).toNat < 8192) (p : Fin 2) (j : Fin 640) :
    gRows tbl d n (ix2 p j) = d (ix2 ⟨(wordAt tbl (n + p.val) : BitVec 32).toNat, h _⟩ j) := by
  rw [gRows_eq]
  match p with
  | ⟨0, _⟩ => exact (interleave_zero _ _ _ j).trans (half_at d _ (h n) 0 j)
  | ⟨1, _⟩ => exact (interleave_one _ _ _ j).trans (half_at d _ (h (n + 1)) 0 j)

/-- An element of the gathered block. -/
theorem gBlk_at (tbl : Vec F S16384 .i32) (d : Vec F S8192x640 .bf16) (q : ℕ) (h : ∀ k, (wordAt tbl k : BitVec 32).toNat < 8192) (y : S512x640.Idx) :
    gBlk tbl d q y = d (ix2 ⟨(wordAt tbl (512 * q + (y 0).val) : BitVec 32).toNat, h _⟩ (y 1)) := by
  refine (gRows_at tbl d _ h ⟨(y 0).val % 2, Nat.mod_lt _ (by decide)⟩ (y 1)).trans ?_
  refine congrArg d (congrArg₂ ix2 (Fin.ext (congrArg (fun k => (wordAt tbl k : BitVec 32).toNat) ?_)) rfl)
  show 512 * q + 2 * ((y 0).val / 2) + (y 0).val % 2 = _
  omega

end Cert.Proof.GatValue

end
-- ==== Proof.EndI.lean ====
/- What the run of `KernelIdeal` leaves: the arguments as launched, and so the program's frame. -/
module

public import proofs.«01_k».proof.Proof.Rows

@[expose] public section

set_option maxRecDepth 16384

noncomputable section

namespace Cert.Proof.I

open Cert.KernelIdeal Cert.KernelIdeal.Gen
open Idealize.ShloMosaic Idealize.ShloMosaic.TcCoe
open Idealize.SL.Sem

variable {F : FTy → Type} [FloatOps F]

section

variable (m : (ℓ : Loc nD τ sig) → Buf (Elt F) ℓ) (c : Dev nD)

/-- The encoder's windows are of different arrays. -/
theorem arr_inj0 : Function.Injective (Pipeline.arrRef spec0) := by decide
/-- The same of the gather's windows. -/
theorem arr_inj1 : Function.Injective (Pipeline.arrRef spec1) := by decide

/-- The argument is not an array of the gather. -/
theorem not_arr1_arg0 : ∀ w, main_arg0 ≠ Pipeline.arrRef spec1 w := by decide
/-- The same of the row table. -/
theorem not_arr1_arg1 : ∀ w, main_arg1 ≠ Pipeline.arrRef spec1 w := by decide

/-- The encoder reads its argument and leaves it, -/
theorem B1_arg0 : B1 m c main_arg0 = m ((c : Thread nD τ).loc main_arg0) :=
  (Pipeline.afterRegion_arr (d0 m c) (B0 m c) arr_inj0 0).trans ((d0 m c).arrAt_in 0 rfl _)

/-- and the gather does not touch it. -/
theorem B2_arg0 : B2 m c main_arg0 = m ((c : Thread nD τ).loc main_arg0) :=
  (Pipeline.afterRegion_of_not_arr (d1 m c) (B1 m c) (b := main_arg0) not_arr1_arg0).trans (B1_arg0 m c)

/-- The row table ends as launched. -/
theorem B2_arg1 : B2 m c main_arg1 = m ((c : Thread nD τ).loc main_arg1) :=
  (Pipeline.afterRegion_of_not_arr (d1 m c) (B1 m c) (b := main_arg1) not_arr1_arg1).trans (B1_arg1 m c)

/-- The argument is among the buffers the run speaks of. -/
theorem arg0_mem : (main_arg0 : DevRef τ sig) ∈ Pipeline.ucRefs τ sig := Finset.mem_filter.mpr ⟨StableHlo.devRef_mem_tcRefs main_arg0, by decide⟩
/-- The same of the row table. -/
theorem arg1_mem : (main_arg1 : DevRef τ sig) ∈ Pipeline.ucRefs τ sig := Finset.mem_filter.mpr ⟨StableHlo.devRef_mem_tcRefs main_arg1, by decide⟩

/-- Row numbers in range are all the gather asks of its table. -/
theorem chk (h : ∀ j, (m ((((0 : Dev nD) : Thread nD τ)).loc main_arg1) j : BitVec 32).toNat < 8192) (j) : k1_chk1 (tblOf (adm1 m) j) :=
  Rows.chkI _ (h j)

/-- The run's frame: both arguments as launched, every counter at zero. -/
theorem frame (ρ : Dev nD → PrngReg) (h : ∀ j, (m ((((0 : Dev nD) : Thread nD τ)).loc main_arg1) j : BitVec 32).toNat < 8192) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run _ _ _).mono (fun r e => ⟨fun c => ⟨(e.1 c main_arg0 arg0_mem).trans (B2_arg0 m c), (e.1 c main_arg1 arg1_mem).trans (B2_arg1 m c)⟩, e.2⟩)
    (run_main m ρ (chk m h))

end

end Cert.Proof.I

end
-- ==== Proof.GatArr.lean ====
/- The gather's result array: row `i` is the row of the decoded array that the table's entry `i` names. -/
module

public import proofs.«01_k».proof.Proof.GatValue
public import proofs.«01_k».proof.Proof.EndI

@[expose] public section

set_option maxRecDepth 16384

noncomputable section

namespace Cert.Proof.GatArr

open Cert.KernelIdeal Cert.KernelIdeal.Gen Cert.Proof.I
open Idealize.ShloMosaic Idealize.ShloMosaic.TcCoe
open Idealize.ShloMosaic (ix1 ix2)

variable {F : FTy → Type} [FloatOps F]

/-- Point `t` of the grid is column block `t / 32`, row block `t % 32`. -/
theorem coords_row : ∀ t : Fin grid1.N, (grid1.coords t 1).val = t.val % 32 := by decide +kernel
/-- The decoded array's block at a point: all rows of its column block. -/
theorem in_ix : ∀ t : Fin grid1.N, cc1_transform_0 (grid1.coords t) = ![0, t.val / 32] := by decide +kernel
/-- The result's block at a point. -/
theorem out_ix : ∀ t : Fin grid1.N, cc1_transform_1 (grid1.coords t) = ![t.val % 32, t.val / 32] := by decide +kernel
/-- The result's block is written back at every point. -/
theorem out_flush : ∀ t : Fin grid1.N, Pipeline.Window.flushOf grid1 true cc1_transform_1 t = true := by decide +kernel

section

variable (a : (pcfg1 (F := F)).Adm)

/-- The blocks written back cover the result. -/
theorem covers : ((cfg1 a).win 1).Covers := by
  refine ⟨(by decide : ∀ k : Fin 2, 0 < S512x640.size k), fun (β : (k : Fin 2) → Fin ((S16384x5120.size k + S512x640.size k - 1) / S512x640.size k)) => ?_⟩
  have h0 : (β 0).val < 32 := (β 0).isLt
  have h1 : (β 1).val < 8 := (β 1).isLt
  have hN : grid1.N = 256 := by decide
  refine ⟨(⟨(β 1).val * 32 + (β 0).val, by omega⟩ : Fin grid1.N), out_flush _, fun (k : Fin 2) => ⟨?_, .inl rfl⟩⟩
  refine (congrFun (out_ix _) k).trans ?_
  match k with
  | ⟨0, _⟩ => show ((β 1).val * 32 + (β 0).val) % 32 = (β 0).val; omega
  | ⟨1, _⟩ => show ((β 1).val * 32 + (β 0).val) / 32 = (β 1).val; omega

/-- Where the result's block at a point lies. -/
theorem out_emb (t : Fin grid1.N) (y : S512x640.Idx) :
    ((((cfg1 a).win 1).blk t).view.emb y : S16384x5120.Idx)
      = ix2 ⟨t.val % 32 * 512 + (y 0).val, by have : (y 0).val < 512 := (y 0).isLt; omega⟩
          ⟨t.val / 32 * 640 + (y 1).val, by have : (y 1).val < 640 := (y 1).isLt; have : t.val < 256 := t.isLt; omega⟩ :=
  funext fun (k : Fin 2) => Fin.ext (by
    refine (Pipeline.Window.rect_emb_val ((cfg1 a).win 1) t y k rfl).trans ?_
    have e : ((cfg1 a).win 1).index t = ![t.val % 32, t.val / 32] := out_ix t
    rw [e]
    match k with
    | ⟨0, _⟩ => rfl
    | ⟨1, _⟩ => rfl)

/-- Where the decoded array's block at a point lies. -/
theorem in_emb (t : Fin grid1.N) (y : S8192x640.Idx) :
    ((((cfg1 a).win 0).blk t).view.emb y : S8192x5120.Idx)
      = ix2 (y 0) ⟨t.val / 32 * 640 + (y 1).val, by have : (y 1).val < 640 := (y 1).isLt; have : t.val < 256 := t.isLt; omega⟩ :=
  funext fun (k : Fin 2) => Fin.ext (by
    refine (Pipeline.Window.rect_emb_val ((cfg1 a).win 0) t y k rfl).trans ?_
    have e : ((cfg1 a).win 0).index t = ![0, t.val / 32] := in_ix t
    rw [e]
    match k with
    | ⟨0, _⟩ => show 0 * 8192 + (y 0).val = (y 0).val; omega
    | ⟨1, _⟩ => rfl)

end

/-- The rows of `d` that `r` names. -/
def gathered (d : FVec F S8192x5120 .bf16) (r : IVec S16384 32) (h : ∀ j, (r j).toNat < 8192) : FVec F S16384x5120 .bf16 :=
  fun y => d (ix2 ⟨(r (ix1 (y 0))).toNat, h _⟩ (y 1))

/-- A gathered block is the gathered array's, when the block it gathers from is a column block of the array. -/
theorem gBlk_eq (tbl : Vec F S16384 .i32) (D : FVec F S8192x5120 .bf16) (h : ∀ j, (tbl j : BitVec 32).toNat < 8192) (d : Vec F S8192x640 .bf16) (p q : ℕ)
    (hp : p < 8) (hq : q < 32) (hd : ∀ y : S8192x640.Idx, d y = D (ix2 (y 0) ⟨p * 640 + (y 1).val, by have : (y 1).val < 640 := (y 1).isLt; omega⟩)) (y : S512x640.Idx) :
    gBlk tbl d q y = gathered D tbl h (ix2 ⟨q * 512 + (y 0).val, by have : (y 0).val < 512 := (y 0).isLt; omega⟩
      ⟨p * 640 + (y 1).val, by have : (y 1).val < 640 := (y 1).isLt; omega⟩) := by
  have hy : (y 0).val < 512 := (y 0).isLt
  have e : (wordAt tbl (512 * q + (y 0).val) : BitVec 32) = tbl (ix1 ⟨q * 512 + (y 0).val, by omega⟩) :=
    congrArg (fun k => tbl (ix1 k)) (Fin.ext (by show (512 * q + (y 0).val) % 16384 = q * 512 + (y 0).val; omega))
  refine (GatValue.gBlk_at tbl d q (fun k => h _) y).trans ((hd _).trans ?_)
  exact congrArg D (congrArg₂ ix2 (Fin.ext (show BitVec.toNat (wordAt tbl (512 * q + (y 0).val)) = BitVec.toNat (tbl (ix1 ⟨q * 512 + (y 0).val, by omega⟩)) from congrArg BitVec.toNat e)) rfl)

section

variable (a : (pcfg1 (F := F)).Adm) (V : (c : Dev nD) → (b : Ref sig .tc) → Buf (Elt F) ((c : Thread nD τ).loc b)) (c : Dev nD)

/-- The result after the gather. -/
theorem arr (h : ∀ j, (tblOf a j : BitVec 32).toNat < 8192) :
    (dat1 a V c).arrAt 1 (cfg1 a).N = gathered (V c main_v0_3) (tblOf a) h := by
  refine (dat1 a V c).arrAt_eq_of_covers 1 _ (covers a) fun (t : Fin grid1.N) hf (y : S512x640.Idx) => ?_
  have ht : t.val < 256 := t.isLt
  have hq : (grid1.coords t 1).val = t.val % 32 := coords_row t
  have e := gBlk_eq (tblOf a) (V c main_v0_3) h (iblk1 a V c 0 t) (t.val / 32) (grid1.coords t 1).val (by omega) (by omega)
    (fun y => congrArg (V c main_v0_3) (in_emb a t y)) y
  exact e.trans (congrArg (gathered (V c main_v0_3) (tblOf a) h)
    ((congrArg₂ ix2 (Fin.ext (by show (grid1.coords t 1).val * 512 + (y 0).val = t.val % 32 * 512 + (y 0).val; rw [hq])) rfl).trans (out_emb a t y).symm))

end

end Cert.Proof.GatArr

end
-- ==== Proof.Tile.lean ====
/- One tile of 128 elements over the extended reals: what the kernel computes from it, what the reference computes from it,
   and that the two agree. Nothing here mentions a program; the modules that do read their vector expressions down to these
   functions of one tile. -/
module

public import Idealize.ShloMosaic.Lib.Pointwise

@[expose] public section

noncomputable section

namespace Cert.Proof.Tile

open Idealize.ShloMosaic

/-! ## The kernel's functions of a tile -/

/-- The magnitude of an element. -/
abbrev mag (x : EReal) : EReal := FloatOps.absf (F := Ideal) (φ := .f32) x

/-- The greatest magnitude of a tile. -/
def hiMag (t : Fin 128 → EReal) : EReal := Finset.univ.fold max (Ideal.ofBits .f32 0xFF800000#32) fun k => mag (t k)

/-- The least magnitude of a tile's elements other than zero. -/
def loMag (t : Fin 128 → EReal) : EReal :=
  Finset.univ.fold min (Ideal.ofBits .f32 0x7F800000#32) fun k => if t k ≠ 0 then mag (t k) else Ideal.ofBits .f32 0x7F800000#32

/-- The upper end of the tile's range of logarithms. -/
def lmax (t : Fin 128 → EReal) : EReal := Ideal.log (if 0 < hiMag t then hiMag t else 1)

/-- The lower end of the tile's range of logarithms. -/
def lmin (t : Fin 128 → EReal) : EReal :=
  max (Ideal.log (if 0 < hiMag t then loMag t else 1)) (lmax t - Ideal.ofBits .f32 0x41B17218#32)

/-- The level of an element in a range. -/
def level (lo hi x : EReal) : EReal :=
  min (((126#32).toInt : ℝ) : EReal) (max (((0#32).toInt : ℝ) : EReal)
    (Ideal.liftRound Ideal.roundHalfEven
      ((Ideal.log (if x ≠ 0 then mag x else 1) - lo) *
        if 0 < hi - lo then Ideal.div (Ideal.ofBits .f32 0x42FC0000#32) (if 0 < hi - lo then hi - lo else 1) else 0)))

/-- The kernel's code of an element in a range. -/
def code (lo hi x : EReal) : BitVec 8 :=
  BitVec.setWidth 8 (if x ≠ 0 then
    IntOp.addi (FloatOps.fptosi (F := Ideal) (φ := .f32) 32 (level lo hi x)) (if x < 0 then 129#32 else 1#32) else 0#32)

/-- The magnitude a level stands for. -/
def expand (lo hi q : EReal) : EReal := Ideal.exp (lo + q * Ideal.div (hi - lo) (Ideal.ofBits .f32 0x42FC0000#32))

/-- The kernel's decoded element. -/
def dec (lo hi x : EReal) : EReal :=
  if x ≠ 0 then if x < 0 then 0 - expand lo hi (level lo hi x) else expand lo hi (level lo hi x) else 0

/-! ## The reference's functions of a tile -/

/-- Whether an element is not zero, as a bit. -/
abbrev nz (x : EReal) : BitVec 1 := BitVec.ofBool (decide (x ≠ 0))

/-- The logarithm of an element's magnitude. -/
def rLog (x : EReal) : EReal := Ideal.log (Scalar.select (nz x) (mag x) 1)

/-- Whether a tile has an element other than zero, as a bit. -/
def rHas (t : Fin 128 → EReal) : BitVec 1 := Finset.univ.fold IntOp.ori 0#1 fun k => nz (t k)

/-- The greatest logarithm. -/
def rHi (t : Fin 128 → EReal) : EReal :=
  Finset.univ.fold max (Ideal.ofBits .f32 0xFF800000#32) fun k => Scalar.select (nz (t k)) (rLog (t k)) (Ideal.ofBits .f32 0xFF800000#32)

/-- The least logarithm. -/
def rLo (t : Fin 128 → EReal) : EReal :=
  Finset.univ.fold min (Ideal.ofBits .f32 0x7F800000#32) fun k => Scalar.select (nz (t k)) (rLog (t k)) (Ideal.ofBits .f32 0x7F800000#32)

/-- The reference's upper end. -/
def rLmax (t : Fin 128 → EReal) : EReal := Scalar.select (rHas t) (rHi t) 0

/-- The reference's lower end. -/
def rLmin (t : Fin 128 → EReal) : EReal :=
  Scalar.select (rHas t) (max (rLo t) (rHi t - Ideal.ofBits .f32 0x41B17218#32)) 0

/-- The reference's code. -/
def rCode (q x : EReal) : BitVec 8 :=
  BitVec.setWidth 8 (Scalar.select (nz x)
    (IntOp.addi (IntOp.addi (FloatOps.fptosi (F := Ideal) (φ := .f32) 32 q) 1#32)
      (IntOp.muli 128#32 (BitVec.setWidth 32 (BitVec.ofBool (decide (x < 0)))))) 0#32)

/-- The reference's decoded element, from its code as a 32-bit word. -/
def rDec (lo hi : EReal) (w : BitVec 32) : EReal :=
  Scalar.select (IntOp.cmpi .eq (IntOp.andi w 127#32) 0#32) 0
    (Scalar.select (IntOp.cmpi .eq (IntOp.shrsi .host w 7#32) 1#32)
      (-expand lo hi (FloatOps.sitofp (F := Ideal) .f32 (IntOp.subi (IntOp.andi w 127#32) 1#32)))
      (expand lo hi (FloatOps.sitofp (F := Ideal) .f32 (IntOp.subi (IntOp.andi w 127#32) 1#32))))

/-! ## Constants, logarithms, selections -/

/-- The pattern of minus infinity. -/
theorem ofBits_ninf : Ideal.ofBits .f32 0xFF800000#32 = (⊥ : EReal) := by simp [Ideal.ofBits, Ideal.ieee]

/-- The pattern of infinity. -/
theorem ofBits_pinf : Ideal.ofBits .f32 0x7F800000#32 = (⊤ : EReal) := by simp [Ideal.ofBits, Ideal.ieee]

/-- The range constant is a number that is not negative. -/
theorem range_nonneg : (0 : EReal) ≤ Ideal.ofBits .f32 0x41B17218#32 := by
  simp [Ideal.ofBits, Ideal.ieee]
  exact mul_nonneg (EReal.coe_nonneg.mpr (by norm_num)) (EReal.coe_nonneg.mpr (by norm_num))

/-- The logarithm of one. -/
theorem log_one : Ideal.log 1 = 0 := by
  have : Ideal.log ((1 : ℝ) : EReal) = 0 := by rw [Ideal.log_coe]; norm_num
  simpa using this

/-- The logarithm of zero. -/
theorem log_zero : Ideal.log 0 = ⊥ := by
  have : Ideal.log ((0 : ℝ) : EReal) = ⊥ := by rw [Ideal.log_coe]; norm_num
  simpa using this

/-- The logarithm is monotone on all the extended reals. -/
theorem log_mono : Monotone Ideal.log := by
  intro x y h
  induction x with
  | bot => exact bot_le
  | top => rw [top_le_iff.mp h]
  | coe a =>
    induction y with
    | bot => exact absurd h (by simp)
    | top => exact le_top
    | coe b =>
      have hab : a ≤ b := EReal.coe_le_coe_iff.mp h
      rw [Ideal.log_coe, Ideal.log_coe]
      by_cases ha : a ≤ 0
      · rw [if_pos ha]; exact bot_le
      · rw [if_neg ha, if_neg (by linarith)]
        exact EReal.coe_le_coe_iff.mpr (Real.log_le_log (by linarith) hab)

/-- A selection on a decided bit. -/
theorem select_decide {α : Type} (p : Prop) [Decidable p] (a b : α) :
    Scalar.select (BitVec.ofBool (decide p)) a b = if p then a else b := by
  by_cases h : p <;> simp [Scalar.select, h]

/-- A magnitude is the greater of the element and its negation. -/
theorem mag_eq (x : EReal) : mag x = max x (-x) := rfl

/-- A magnitude is positive exactly off zero. -/
theorem mag_pos (x : EReal) : 0 < mag x ↔ x ≠ 0 := by
  rw [mag_eq, lt_max_iff]
  constructor
  · rintro (h | h) rfl
    · exact lt_irrefl _ h
    · simp at h
  · intro h
    rcases lt_or_gt_of_ne h with h | h
    · right; exact EReal.neg_lt_neg_iff.mp (by simpa using h)
    · exact .inl h

/-- The magnitude of zero. -/
theorem mag_zero : mag 0 = 0 := by rw [mag_eq]; simp

/-- The reference's logarithm with minus infinity at the zero elements is the logarithm of the magnitude. -/
theorem select_rLog_bot (x : EReal) : Scalar.select (nz x) (rLog x) ⊥ = Ideal.log (mag x) := by
  rw [rLog, select_decide, select_decide]
  by_cases h : x = 0
  · subst h; simp [mag_zero, log_zero]
  · simp [h]

/-- The reference's logarithm with infinity at the zero elements is the logarithm of the magnitude with infinity there. -/
theorem select_rLog_top (x : EReal) : Scalar.select (nz x) (rLog x) ⊤ = Ideal.log (if x ≠ 0 then mag x else ⊤) := by
  rw [rLog, select_decide, select_decide]
  by_cases h : x = 0
  · subst h; simp
  · simp [h]

/-! ## The ends of the range -/

/-- The greatest logarithm is the logarithm of the greatest magnitude. -/
theorem rHi_eq (t : Fin 128 → EReal) : rHi t = Ideal.log (hiMag t) := by
  unfold rHi hiMag
  simp only [ofBits_ninf, select_rLog_bot]
  exact (congrArg (fun b => Finset.univ.fold max b fun k => Ideal.log (mag (t k))) Ideal.log_bot.symm).trans
    (Finset.fold_hom fun x y => log_mono.map_max (a := x) (b := y))

/-- The least logarithm is the logarithm of the least magnitude. -/
theorem rLo_eq (t : Fin 128 → EReal) : rLo t = Ideal.log (loMag t) := by
  unfold rLo loMag
  simp only [ofBits_pinf, select_rLog_top]
  exact (congrArg (fun b => Finset.univ.fold min b fun k => Ideal.log (if t k ≠ 0 then mag (t k) else ⊤)) Ideal.log_top.symm).trans
    (Finset.fold_hom fun x y => log_mono.map_min (a := x) (b := y))

/-- A disjunction of decided bits is the decided disjunction. -/
theorem fold_ori {α : Type} [DecidableEq α] (s : Finset α) (p : α → Prop) [DecidablePred p] :
    s.fold IntOp.ori 0#1 (fun k => BitVec.ofBool (decide (p k))) = BitVec.ofBool (decide (∃ k ∈ s, p k)) := by
  induction s using Finset.induction_on with
  | empty => simp
  | insert a s ha ih =>
    rw [Finset.fold_insert ha, ih]
    by_cases h : p a <;> by_cases h' : ∃ k ∈ s, p k <;> simp [h, h', IntOp.ori]

/-- A tile's greatest magnitude is positive exactly when an element is not zero. -/
theorem hiMag_pos (t : Fin 128 → EReal) : 0 < hiMag t ↔ ∃ k ∈ (Finset.univ : Finset (Fin 128)), t k ≠ 0 := by
  unfold hiMag
  rw [Finset.lt_fold_max, ofBits_ninf]
  simp [mag_pos]

/-- The reference's test for an element other than zero is the kernel's. -/
theorem rHas_eq (t : Fin 128 → EReal) : rHas t = BitVec.ofBool (decide (0 < hiMag t)) := by
  rw [rHas, fold_ori]
  exact congrArg BitVec.ofBool (decide_eq_decide.mpr (hiMag_pos t).symm)

/-- The reference's upper end is the kernel's. -/
theorem rLmax_eq (t : Fin 128 → EReal) : rLmax t = lmax t := by
  rw [rLmax, lmax, rHas_eq, select_decide, rHi_eq]
  by_cases h : 0 < hiMag t
  · rw [if_pos h, if_pos h]
  · rw [if_neg h, if_neg h, log_one]

/-- The reference's lower end is the kernel's. -/
theorem rLmin_eq (t : Fin 128 → EReal) : rLmin t = lmin t := by
  rw [rLmin, lmin, lmax, rHas_eq, select_decide, rHi_eq, rLo_eq]
  by_cases h : 0 < hiMag t
  · rw [if_pos h, if_pos h, if_pos h]
  · rw [if_neg h, if_neg h, if_neg h, log_one, zero_sub]
    refine (max_eq_left ?_).symm
    rw [EReal.neg_le, neg_zero]
    exact range_nonneg

/-! ## Codes -/

/-- The reference's code is the kernel's, whatever the level. -/
theorem rCode_eq (lo hi x : EReal) : rCode (level lo hi x) x = code lo hi x := by
  rw [rCode, code, select_decide]
  by_cases h : x < 0
  · simp only [h, decide_true, if_true]
    congr 1
    split_ifs
    · generalize FloatOps.fptosi (F := Ideal) (φ := .f32) 32 (level lo hi x) = a
      simp only [IntOp.addi, IntOp.muli]
      exact BitVec.add_assoc a 1#32 128#32
    · rfl
  · simp only [h, decide_false, if_false]
    congr 1
    split_ifs
    · generalize FloatOps.fptosi (F := Ideal) (φ := .f32) 32 (level lo hi x) = a
      simp [IntOp.addi, IntOp.muli]
    · rfl

/-- A level is a whole number from 0 to 126. -/
theorem level_nat (lo hi x : EReal) : ∃ n : Fin 127, level lo hi x = ((n.val : ℝ) : EReal) := by
  unfold level
  generalize (Ideal.log (if x ≠ 0 then mag x else 1) - lo) *
        (if 0 < hi - lo then Ideal.div (Ideal.ofBits .f32 0x42FC0000#32) (if 0 < hi - lo then hi - lo else 1) else 0) = y
  have h126 : (126#32).toInt = 126 := by decide
  have h0 : (0#32).toInt = 0 := by decide
  rw [h126, h0]
  induction y with
  | bot => exact ⟨0, by simp⟩
  | top => exact ⟨126, by simp⟩
  | coe a =>
    rw [Ideal.liftRound_coe]
    generalize Ideal.roundHalfEven a = z
    have hz : (0 : ℤ) ≤ min 126 (max 0 z) := le_min (by norm_num) (le_max_left _ _)
    have hz' : min 126 (max 0 z) ≤ (126 : ℤ) := min_le_left _ _
    refine ⟨⟨(min 126 (max 0 z)).toNat, by omega⟩, ?_⟩
    have e : (((min 126 (max 0 z)).toNat : ℕ) : ℝ) = ((min 126 (max 0 z) : ℤ) : ℝ) := by
      rw [← Int.cast_natCast, Int.toNat_of_nonneg hz]
    show _ = ((((min 126 (max 0 z)).toNat : ℕ) : ℝ) : EReal)
    rw [e, Int.cast_min, Int.cast_max, EReal.coe_strictMono.monotone.map_min, EReal.coe_strictMono.monotone.map_max]

/-- A whole number from 0 to 126 converts to its own word. -/
theorem fptosi_nat (n : Fin 127) : FloatOps.fptosi (F := Ideal) (φ := .f32) 32 ((n.val : ℝ) : EReal) = BitVec.ofNat 32 n.val := by
  show Ideal.fptosi 32 ((n.val : ℝ) : EReal) = _
  have hn := n.isLt
  unfold Ideal.fptosi Ideal.toIntClamped
  show BitVec.ofInt 32 (max _ (min _ (if (0 : ℝ) ≤ (n.val : ℝ) then ⌊(n.val : ℝ)⌋ else ⌈(n.val : ℝ)⌉))) = _
  rw [if_pos (Nat.cast_nonneg _), Int.floor_natCast]
  have : max (-((2 ^ (32 - 1) : ℕ) : ℤ)) (min (((2 ^ (32 - 1) : ℕ) : ℤ) - 1) (n.val : ℤ)) = (n.val : ℤ) := by
    norm_num
    omega
  rw [this]
  exact BitVec.ofInt_natCast 32 n.val

/-- The words of a code: its low seven bits are the level plus one, its top bit the sign. -/
theorem word_facts : ∀ n : Fin 127,
    (IntOp.andi (BitVec.setWidth 32 (BitVec.setWidth 8 (IntOp.addi (BitVec.ofNat 32 n.val) 129#32))) 127#32 = BitVec.ofNat 32 (n.val + 1)
      ∧ IntOp.cmpi .eq (IntOp.shrsi .host (BitVec.setWidth 32 (BitVec.setWidth 8 (IntOp.addi (BitVec.ofNat 32 n.val) 129#32))) 7#32) 1#32 = 1#1)
    ∧ (IntOp.andi (BitVec.setWidth 32 (BitVec.setWidth 8 (IntOp.addi (BitVec.ofNat 32 n.val) 1#32))) 127#32 = BitVec.ofNat 32 (n.val + 1)
      ∧ IntOp.cmpi .eq (IntOp.shrsi .host (BitVec.setWidth 32 (BitVec.setWidth 8 (IntOp.addi (BitVec.ofNat 32 n.val) 1#32))) 7#32) 1#32 = 0#1)
    ∧ IntOp.cmpi .eq (BitVec.ofNat 32 (n.val + 1)) 0#32 = 0#1
    ∧ (IntOp.subi (BitVec.ofNat 32 (n.val + 1)) 1#32).toInt = n.val := by
  decide +kernel

/-- Decoding the kernel's code as the reference does gives the kernel's decoded element. -/
theorem rDec_code (lo hi x : EReal) : rDec lo hi (BitVec.setWidth 32 (code lo hi x)) = dec lo hi x := by
  obtain ⟨n, hn⟩ := level_nat lo hi x
  obtain ⟨⟨a1, a2⟩, ⟨b1, b2⟩, c, d⟩ := word_facts n
  have hs : FloatOps.sitofp (F := Ideal) .f32 (IntOp.subi (BitVec.ofNat 32 (n.val + 1)) 1#32) = ((n.val : ℝ) : EReal) := by
    show (((IntOp.subi (BitVec.ofNat 32 (n.val + 1)) 1#32).toInt : ℝ) : EReal) = _
    rw [d]; simp
  unfold dec code rDec
  rw [hn, fptosi_nat]
  by_cases h0 : x = 0
  · subst h0
    simp only [ne_eq, not_true_eq_false, if_false]
    rfl
  · by_cases h : x < 0
    · simp only [ne_eq, h0, not_false_eq_true, if_true, h, a1, a2, c, hs, zero_sub]
      rfl
    · simp only [ne_eq, h0, not_false_eq_true, if_true, h, if_false, b1, b2, c, hs]
      rfl

end Cert.Proof.Tile

end
-- ==== Proof.EncTile.lean ====
/- The kernel's vector values for one tile of 256 rows and 128 lanes, named, and read at an index as the tile functions. -/
module

public import proofs.«01_k».proof.Proof.EncBodyI
public import proofs.«01_k».proof.Proof.Tile

@[expose] public section

set_option maxRecDepth 16384

noncomputable section

namespace Cert.Proof.EncTile

open Cert.KernelIdeal Cert.KernelIdeal.Gen Cert.Proof.I
open Idealize.ShloMosaic Idealize.ShloMosaic.TcCoe Idealize.SL.Sem

/-- A row of a tile. -/
abbrev rowOf (v : Vec Ideal S256x128 .bf16) (r : Fin 256) : Fin 128 → EReal := fun l => v (ix2 r l)

/-- The upper end of a row. -/
theorem tLmax_at (v : Vec Ideal S256x128 .bf16) (r : Fin 256) : tLmax v (ix2 r 0) = Tile.lmax (rowOf v r) := by
  unfold tLmax
  pointwise [k0_pay6, k0_pay5, k0_pay4, k0_pay3, k0_pay1]
  rfl

/-- The lower end of a row. -/
theorem tLmin_at (v : Vec Ideal S256x128 .bf16) (r : Fin 256) : tLmin v (ix2 r 0) = Tile.lmin (rowOf v r) := by
  unfold tLmin
  pointwise [k0_pay7, k0_pay6, k0_pay5, k0_pay4, k0_pay3, k0_pay2, k0_pay1]
  rfl

/-- The code of an element. -/
theorem tCode_at (v : Vec Ideal S256x128 .bf16) (r : Fin 256) (l : Fin 128) :
    tCode v (ix2 r l) = Tile.code (Tile.lmin (rowOf v r)) (Tile.lmax (rowOf v r)) (v (ix2 r l)) := by
  rw [← tLmin_at, ← tLmax_at]
  unfold tCode
  pointwise [k0_pay12, k0_pay11, k0_pay10, k0_pay9, k0_pay8, k0_pay2, k0_pay3, k0_pay1]
  rfl

/-- An element decoded. -/
theorem tDec_at (v : Vec Ideal S256x128 .bf16) (r : Fin 256) (l : Fin 128) :
    tDec v (ix2 r l) = Tile.dec (Tile.lmin (rowOf v r)) (Tile.lmax (rowOf v r)) (v (ix2 r l)) := by
  rw [← tLmin_at, ← tLmax_at]
  unfold tDec
  pointwise [k0_pay13, k0_pay11, k0_pay10, k0_pay9, k0_pay8, k0_pay2, k0_pay3, k0_pay1]
  rfl

end Cert.Proof.EncTile

end
-- ==== Proof.EncBlock.lean ====
/- The kernel's block of 256 rows: what each of its forty unrolled tiles stores, joined into one function of the block. -/
module

public import proofs.«01_k».proof.Proof.EncTile
public import Idealize.ShloMosaic.Lib.Pipeline.ValueKit

@[expose] public section

set_option maxRecDepth 16384

noncomputable section

namespace Cert.Proof.EncBlock

open Cert.KernelIdeal Cert.KernelIdeal.Gen Cert.Proof.I Cert.Proof.EncTile
open Idealize.ShloMosaic Idealize.ShloMosaic.TcCoe Idealize.SL.Sem

/-- The tile a lane of the row lies in. -/
abbrev tileIx (j : Fin 5120) : Fin 40 := ⟨j.val / 128, by omega⟩

/-- Tile `b` of row `r` of a block. -/
abbrev blkTile (x0 : Vec Ideal S256x5120 .bf16) (r : Fin 256) (b : Fin 40) : Fin 128 → EReal :=
  fun l => x0 (ix2 r ⟨b.val * 128 + l.val, by omega⟩)

/-- The lower ends of a block's tiles. -/
def bLmin (x0 : Vec Ideal S256x5120 .bf16) : Vec Ideal S256x40 .f32 := fun y => Tile.lmin (blkTile x0 (y 0) (y 1))
/-- The upper ends of a block's tiles. -/
def bLmax (x0 : Vec Ideal S256x5120 .bf16) : Vec Ideal S256x40 .f32 := fun y => Tile.lmax (blkTile x0 (y 0) (y 1))
/-- The codes of a block. -/
def bCode (x0 : Vec Ideal S256x5120 .bf16) : Vec Ideal S256x5120 .i8 := fun y =>
  Tile.code (Tile.lmin (blkTile x0 (y 0) (tileIx (y 1)))) (Tile.lmax (blkTile x0 (y 0) (tileIx (y 1)))) (x0 y)
/-- The decoded elements of a block. -/
def bDec (x0 : Vec Ideal S256x5120 .bf16) : Vec Ideal S256x5120 .bf16 := fun y =>
  Tile.dec (Tile.lmin (blkTile x0 (y 0) (tileIx (y 1)))) (Tile.lmax (blkTile x0 (y 0) (tileIx (y 1)))) (x0 y)

/-- A row of the tile loaded from lane `o` on is tile `b` of the block's row, when `o` is where that tile starts. -/
theorem rowOf_ld (x0 : Vec Ideal S256x5120 .bf16) (o : ℕ) (inb) (r r' : Fin 256) (b : Fin 40) (hr : r'.val = r.val) (ho : o = b.val * 128) :
    rowOf (View.ld x0 (Rect.unit (s := S256x5120) ![0, o] S256x128.size inb)) r = blkTile x0 r' b :=
  funext fun l => View.ld_unit_apply_of x0 _ _ inb _ _ fun a => match a with
    | ⟨0, _⟩ => hr.trans (Nat.zero_add _).symm
    | ⟨1, _⟩ => congrArg (· + l.val) ho.symm

/-- An element of the tile loaded from lane `o` on. -/
theorem ld_at (x0 : Vec Ideal S256x5120 .bf16) (o : ℕ) (inb) (y : S256x5120.Idx) (r : Fin 256) (l : Fin 128)
    (h0 : (y 0).val = r.val) (h1 : (y 1).val = o + l.val) :
    View.ld x0 (Rect.unit (s := S256x5120) ![0, o] S256x128.size inb) (ix2 r l) = x0 y :=
  View.ld_unit_apply_of x0 _ _ inb _ _ fun a => match a with
    | ⟨0, _⟩ => h0.trans (Nat.zero_add _).symm
    | ⟨1, _⟩ => h1

/-- The lower ends stored for the tile that starts at lane `o`. -/
theorem lmin_piece (x0 : Vec Ideal S256x5120 .bf16) (y : S256x40.Idx) (x : S256x1.Idx) (o p : ℕ)
    (h0 : (y 0).val = (x 0).val) (h1 : (y 1).val = p + (x 1).val) (ho : o = p * 128) (inb) :
    tLmin (View.ld x0 (Rect.unit (s := S256x5120) ![0, o] S256x128.size inb)) x = bLmin x0 y := by
  have hx : (x 1).val = 0 := by have : (x 1).val < 1 := (x 1).isLt; omega
  obtain ⟨r, hr⟩ : ∃ r : Fin 256, r = x 0 := ⟨_, rfl⟩
  have e : x = ix2 r 0 := by rw [hr]; exact (eq_ix2 x).trans (congrArg (ix2 (x 0)) (Fin.ext hx))
  have h0' : (y 0).val = r.val := by rw [hr]; exact h0
  rw [e]
  exact (tLmin_at _ r).trans (congrArg Tile.lmin (rowOf_ld x0 o inb r (y 0) (y 1) h0' (by rw [h1, hx]; exact ho)))

/-- The upper ends stored for the tile that starts at lane `o`. -/
theorem lmax_piece (x0 : Vec Ideal S256x5120 .bf16) (y : S256x40.Idx) (x : S256x1.Idx) (o p : ℕ)
    (h0 : (y 0).val = (x 0).val) (h1 : (y 1).val = p + (x 1).val) (ho : o = p * 128) (inb) :
    tLmax (View.ld x0 (Rect.unit (s := S256x5120) ![0, o] S256x128.size inb)) x = bLmax x0 y := by
  have hx : (x 1).val = 0 := by have : (x 1).val < 1 := (x 1).isLt; omega
  obtain ⟨r, hr⟩ : ∃ r : Fin 256, r = x 0 := ⟨_, rfl⟩
  have e : x = ix2 r 0 := by rw [hr]; exact (eq_ix2 x).trans (congrArg (ix2 (x 0)) (Fin.ext hx))
  have h0' : (y 0).val = r.val := by rw [hr]; exact h0
  rw [e]
  exact (tLmax_at _ r).trans (congrArg Tile.lmax (rowOf_ld x0 o inb r (y 0) (y 1) h0' (by rw [h1, hx]; exact ho)))

/-- The codes stored for the tile that starts at lane `o`. -/
theorem code_piece (x0 : Vec Ideal S256x5120 .bf16) (y : S256x5120.Idx) (x : S256x128.Idx) (o : ℕ)
    (h0 : (y 0).val = (x 0).val) (h1 : (y 1).val = o + (x 1).val) (ho : o % 128 = 0) (inb) :
    tCode (View.ld x0 (Rect.unit (s := S256x5120) ![0, o] S256x128.size inb)) x = bCode x0 y := by
  have hx : (x 1).val < 128 := (x 1).isLt
  obtain ⟨r, hr⟩ : ∃ r : Fin 256, r = x 0 := ⟨_, rfl⟩
  obtain ⟨l, hl⟩ : ∃ l : Fin 128, l = x 1 := ⟨_, rfl⟩
  have e : x = ix2 r l := by rw [hr, hl]; exact eq_ix2 x
  have h0' : (y 0).val = r.val := by rw [hr]; exact h0
  have h1' : (y 1).val = o + l.val := by rw [hl]; exact h1
  have hrow := rowOf_ld x0 o inb r (y 0) (tileIx (y 1)) h0' (by show o = (y 1).val / 128 * 128; omega)
  rw [e]
  exact (tCode_at _ r l).trans (by rw [hrow, ld_at x0 o inb y r l h0' h1']; rfl)

/-- The decoded elements stored for the tile that starts at lane `o`. -/
theorem dec_piece (x0 : Vec Ideal S256x5120 .bf16) (y : S256x5120.Idx) (x : S256x128.Idx) (o : ℕ)
    (h0 : (y 0).val = (x 0).val) (h1 : (y 1).val = o + (x 1).val) (ho : o % 128 = 0) (inb) :
    tDec (View.ld x0 (Rect.unit (s := S256x5120) ![0, o] S256x128.size inb)) x = bDec x0 y := by
  have hx : (x 1).val < 128 := (x 1).isLt
  obtain ⟨r, hr⟩ : ∃ r : Fin 256, r = x 0 := ⟨_, rfl⟩
  obtain ⟨l, hl⟩ : ∃ l : Fin 128, l = x 1 := ⟨_, rfl⟩
  have e : x = ix2 r l := by rw [hr, hl]; exact eq_ix2 x
  have h0' : (y 0).val = r.val := by rw [hr]; exact h0
  have h1' : (y 1).val = o + l.val := by rw [hl]; exact h1
  have hrow := rowOf_ld x0 o inb r (y 0) (tileIx (y 1)) h0' (by show o = (y 1).val / 128 * 128; omega)
  rw [e]
  exact (tDec_at _ r l).trans (by rw [hrow, ld_at x0 o inb y r l h0' h1']; rfl)

end Cert.Proof.EncBlock

end
-- ==== Proof.EncOut.lean ====
/- Every output window of the kernel's body, after it, as one function of the input block. A window's forty stores are the
   family of the forty tiles' values, which is read at an index. -/
module

public import proofs.«01_k».proof.Proof.EncBlock

@[expose] public section

set_option maxRecDepth 16384

noncomputable section

namespace Cert.Proof.EncBlock

open Cert.KernelIdeal Cert.KernelIdeal.Gen Cert.Proof.I Cert.Proof.EncTile
open Idealize.ShloMosaic Idealize.ShloMosaic.TcCoe Idealize.SL.Sem

/-- The codes after the body. -/
theorem out_code (x0 : Vec Ideal S256x5120 .bf16) : out1 x0 = bCode x0 :=
  (funext fun y => View.canon_ofFn_unit_eq_of_forall _ _ inb_big _ y _ (cover_big y)
    fun k x h => code_piece x0 y x _ ((h 0).trans (Nat.zero_add _)) (h 1) (Nat.mul_mod_left _ _) (inb_big k))

/-- The lower ends after the body. -/
theorem out_lmin (x0 : Vec Ideal S256x5120 .bf16) : out2 x0 = bLmin x0 :=
  (funext fun y => View.canon_ofFn_unit_eq_of_forall _ _ inb_small _ y _ (cover_small y)
    fun k x h => lmin_piece x0 y x _ _ ((h 0).trans (Nat.zero_add _)) (h 1) rfl (inb_big k))

/-- The upper ends after the body. -/
theorem out_lmax (x0 : Vec Ideal S256x5120 .bf16) : out3 x0 = bLmax x0 :=
  (funext fun y => View.canon_ofFn_unit_eq_of_forall _ _ inb_small _ y _ (cover_small y)
    fun k x h => lmax_piece x0 y x _ _ ((h 0).trans (Nat.zero_add _)) (h 1) rfl (inb_big k))

/-- The decoded elements after the body. -/
theorem out_dec (x0 : Vec Ideal S256x5120 .bf16) : out4 x0 = bDec x0 :=
  (funext fun y => View.canon_ofFn_unit_eq_of_forall _ _ inb_big _ y _ (cover_big y)
    fun k x h => dec_piece x0 y x _ ((h 0).trans (Nat.zero_add _)) (h 1) (Nat.mul_mod_left _ _) (inb_big k))

end Cert.Proof.EncBlock

end
-- ==== Proof.RefTerm.lean ====
/- The reference's results as short named stages of its argument. The generated run of the reference states every
   result as one composed term; here the same terms are given stage by stage, in the order of the quantiser's own lines,
   so that each can be read at an index by itself. -/
module

public import proofs.«01_k».proof.Proof.Gen.ReferenceIdeal
public import Idealize.ShloMosaic.Lib.Pointwise

@[expose] public section

set_option maxRecDepth 16384

noncomputable section

namespace Cert.Proof.RefTerm

open Cert.ReferenceIdeal Cert.ReferenceIdeal.Gen
open Idealize.ShloMosaic Idealize.ShloMosaic.TcCoe Idealize.SL.Sem

variable {F : FTy → Type} [FloatOps F]

/-- The argument as tiles: row, tile, lane. -/
def tiles (x : FVec F S8192x5120 .bf16) : FVec F S8192x40x128 .f32 :=
  shapeCast _ (extf .f32 x bitsLt_bf16_f32) shapeCasts_S8192x5120_S8192x40x128
/-- Which elements are not zero. -/
def nz (v : FVec F S8192x40x128 .f32) : IVec S8192x40x128 1 := cmpf .une v (broadcastInDim S8192x40x128 ![] bcast_S_S8192x40x128 (constant S_ .f32 0x00000000#32))
/-- The logarithms of the magnitudes, the logarithm of one at the zero elements. -/
def logs (z : IVec S8192x40x128 1) (v : FVec F S8192x40x128 .f32) : FVec F S8192x40x128 .f32 := Host.log (select z (Host.absf v) (broadcastInDim S8192x40x128 ![] bcast_S_S8192x40x128 (constant S_ .f32 0x3F800000#32)))
/-- Which tiles hold an element that is not zero. -/
def has (z : IVec S8192x40x128 1) : IVec S8192x40 1 := Host.reduce IntOp.ori z (constantI S_ 1 0#1) reducesTo_S8192x40x128_S8192x40_d2 h_S_
/-- The greatest logarithm of each tile. -/
def lmaxRaw (z : IVec S8192x40x128 1) (l : FVec F S8192x40x128 .f32) : FVec F S8192x40 .f32 :=
  Host.reduce FloatOps.maximumf (select z l (broadcastInDim S8192x40x128 ![] bcast_S_S8192x40x128 (constant S_ .f32 0xFF800000#32))) (constant S_ .f32 0xFF800000#32) reducesTo_S8192x40x128_S8192x40_d2 h_S_
/-- The least logarithm of each tile. -/
def lminRaw (z : IVec S8192x40x128 1) (l : FVec F S8192x40x128 .f32) : FVec F S8192x40 .f32 :=
  Host.reduce FloatOps.minimumf (select z l (broadcastInDim S8192x40x128 ![] bcast_S_S8192x40x128 (constant S_ .f32 0x7F800000#32))) (constant S_ .f32 0x7F800000#32) reducesTo_S8192x40x128_S8192x40_d2 h_S_
/-- The upper end of each tile's range. -/
def lmaxOf (h : IVec S8192x40 1) (hi : FVec F S8192x40 .f32) : FVec F S8192x40 .f32 := select h hi (broadcastInDim S8192x40 ![] bcast_S_S8192x40 (constant S_ .f32 0x00000000#32))
/-- The lower end of each tile's range. -/
def lminOf (h : IVec S8192x40 1) (hi lo : FVec F S8192x40 .f32) : FVec F S8192x40 .f32 :=
  select h (maximumf lo (subf hi (broadcastInDim S8192x40 ![] bcast_S_S8192x40 (constant S_ .f32 0x41B17218#32)))) (broadcastInDim S8192x40 ![] bcast_S_S8192x40 (constant S_ .f32 0x00000000#32))
/-- Levels per unit of logarithm, for a range of width `w`. -/
def invOf (w : FVec F S8192x40 .f32) : FVec F S8192x40 .f32 :=
  select (cmpf .ogt w (broadcastInDim S8192x40 ![] bcast_S_S8192x40 (constant S_ .f32 0x00000000#32))) (Host.divf (broadcastInDim S8192x40 ![] bcast_S_S8192x40 (constant S_ .f32 0x42FC0000#32)) (select (cmpf .ogt w (broadcastInDim S8192x40 ![] bcast_S_S8192x40 (constant S_ .f32 0x00000000#32))) w (broadcastInDim S8192x40 ![] bcast_S_S8192x40 (constant S_ .f32 0x3F800000#32)))) (broadcastInDim S8192x40 ![] bcast_S_S8192x40 (constant S_ .f32 0x00000000#32))
/-- The step of one level, for a range of width `w`. -/
def stepOf (w : FVec F S8192x40 .f32) : FVec F S8192x40 .f32 := Host.divf w (broadcastInDim S8192x40 ![] bcast_S_S8192x40 (constant S_ .f32 0x42FC0000#32))
/-- A per-tile number beside every element of its tile. -/
def spread (w : FVec F S8192x40 .f32) : FVec F S8192x40x128 .f32 :=
  broadcastInDim S8192x40x128 ![0, 1, 2] bcast_S8192x40x1_S8192x40x128_0_1_2 (broadcastInDim S8192x40x1 ![0, 1] bcast_S8192x40_S8192x40x1_0_1 w)
/-- The level of each element, before conversion to an integer. -/
def quantOf (l lo s : FVec F S8192x40x128 .f32) : FVec F S8192x40x128 .f32 :=
  minimumf (broadcastInDim S8192x40x128 ![] bcast_S_S8192x40x128 (sitofp .f32 (constantI S_ 32 126#32))) (maximumf (broadcastInDim S8192x40x128 ![] bcast_S_S8192x40x128 (sitofp .f32 (constantI S_ 32 0#32))) (Host.roundeven (mulf (subf l lo) s)))
/-- The code of each element. -/
def codeOf (z : IVec S8192x40x128 1) (v q : FVec F S8192x40x128 .f32) : IVec S8192x40x128 8 :=
  trunci 8 (select z (addi (addi (fptosi 32 q) (broadcastInDim S8192x40x128 ![] bcast_S_S8192x40x128 (constantI S_ 32 1#32))) (muli (broadcastInDim S8192x40x128 ![] bcast_S_S8192x40x128 (constantI S_ 32 128#32)) (extui 32 (cmpf .olt v (broadcastInDim S8192x40x128 ![] bcast_S_S8192x40x128 (constant S_ .f32 0x00000000#32))) natLt_1_32))) (broadcastInDim S8192x40x128 ![] bcast_S_S8192x40x128 (constantI S_ 32 0#32))) natLt_8_32
/-- The codes laid out as the argument is. -/
def flat8 (k : IVec S8192x40x128 8) : IVec S8192x5120 8 := shapeCast _ k shapeCasts_S8192x40x128_S8192x5120
/-- The codes read back as 32-bit words, tile by tile. -/
def wordOf (k : IVec S8192x5120 8) : IVec S8192x40x128 32 := extui 32 (shapeCast _ k shapeCasts_S8192x5120_S8192x40x128) natLt_8_32
/-- The low seven bits of each word. -/
def low7 (w : IVec S8192x40x128 32) : IVec S8192x40x128 32 := andi w (broadcastInDim S8192x40x128 ![] bcast_S_S8192x40x128 (constantI S_ 32 127#32))
/-- The decoded magnitude. -/
def magOf (lo s : FVec F S8192x40x128 .f32) (k : IVec S8192x40x128 32) : FVec F S8192x40x128 .f32 :=
  Host.exp (addf lo (mulf (sitofp .f32 (subi k (broadcastInDim S8192x40x128 ![] bcast_S_S8192x40x128 (constantI S_ 32 1#32)))) s))
/-- The decoded element. -/
def decOf (w k : IVec S8192x40x128 32) (g : FVec F S8192x40x128 .f32) : FVec F S8192x40x128 .f32 :=
  select (cmpi .eq k (broadcastInDim S8192x40x128 ![] bcast_S_S8192x40x128 (constantI S_ 32 0#32))) (broadcastInDim S8192x40x128 ![] bcast_S_S8192x40x128 (constant S_ .f32 0x00000000#32)) (select (cmpi .eq (Host.shrsi w (broadcastInDim S8192x40x128 ![] bcast_S_S8192x40x128 (constantI S_ 32 7#32))) (broadcastInDim S8192x40x128 ![] bcast_S_S8192x40x128 (constantI S_ 32 1#32))) (Host.negf g) g)
/-- The decoded elements laid out as the argument is. -/
def flat16 (d : FVec F S8192x40x128 .f32) : FVec F S8192x5120 .bf16 :=
  truncf .bf16 (shapeCast _ d shapeCasts_S8192x40x128_S8192x5120) bitsLt_bf16_f32

/-- The reference's `lmax`. -/
def lmax (v : FVec F S8192x40x128 .f32) : FVec F S8192x40 .f32 := lmaxOf (has (nz v)) (lmaxRaw (nz v) (logs (nz v) v))
/-- The reference's `lmin`. -/
def lmin (v : FVec F S8192x40x128 .f32) : FVec F S8192x40 .f32 :=
  lminOf (has (nz v)) (lmaxRaw (nz v) (logs (nz v) v)) (lminRaw (nz v) (logs (nz v) v))
/-- The reference's level of each element. -/
def quant (v : FVec F S8192x40x128 .f32) : FVec F S8192x40x128 .f32 :=
  quantOf (logs (nz v) v) (spread (lmin v)) (spread (invOf (subf (lmax v) (lmin v))))
/-- The reference's code of each element. -/
def code (v : FVec F S8192x40x128 .f32) : IVec S8192x40x128 8 := codeOf (nz v) v (quant v)
/-- The reference's decoded element. -/
def decTiles (v : FVec F S8192x40x128 .f32) : FVec F S8192x40x128 .f32 :=
  decOf (wordOf (flat8 (code v))) (low7 (wordOf (flat8 (code v))))
    (magOf (spread (lmin v)) (spread (stepOf (subf (lmax v) (lmin v)))) (low7 (wordOf (flat8 (code v)))))

end Cert.Proof.RefTerm

end
-- ==== Proof.RefStage.lean ====
/- The reference's stages read at an index, down to the tile functions. -/
module

public import proofs.«01_k».proof.Proof.RefTerm
public import proofs.«01_k».proof.Proof.Tile

@[expose] public section

set_option maxRecDepth 16384

noncomputable section

namespace Cert.Proof.RefStage

open Cert.ReferenceIdeal Cert.ReferenceIdeal.Gen Cert.Proof.RefTerm
open Idealize.ShloMosaic Idealize.ShloMosaic.TcCoe Idealize.SL.Sem

/-! ## Each stage at an index, its arguments variables -/

section Stages

variable (x : FVec Ideal S8192x5120 .bf16) (z : IVec S8192x40x128 1) (v l q s g : FVec Ideal S8192x40x128 .f32)
variable (h : IVec S8192x40 1) (hi lo w : FVec Ideal S8192x40 .f32) (k8 : IVec S8192x40x128 8) (c8 : IVec S8192x5120 8) (k u : IVec S8192x40x128 32)
variable (r : Fin 8192) (b : Fin 40) (i : Fin 128) (j : Fin 5120)

/-- The argument's tiles, at an index. -/
theorem tiles_at : tiles x (ix3 r b i) = x (ix2 r ⟨b.val * 128 + i.val, by omega⟩) := by pointwise [tiles]
/-- Which elements are not zero, at an index. -/
theorem nz_at : nz v (ix3 r b i) = Tile.nz (v (ix3 r b i)) := by pointwise [nz]
/-- The logarithms, at an index. -/
theorem logs_at : logs z v (ix3 r b i) = Ideal.log (Scalar.select (z (ix3 r b i)) (Tile.mag (v (ix3 r b i))) 1) := by pointwise [logs]
/-- Whether a tile holds a nonzero element, at an index. -/
theorem has_at : has z (ix2 r b) = Finset.univ.fold IntOp.ori 0#1 (fun i : Fin 128 => z (ix3 r b i)) := by pointwise [has]
/-- The greatest logarithm of a tile, at an index. -/
theorem lmaxRaw_at : lmaxRaw z l (ix2 r b) = Finset.univ.fold max (Ideal.ofBits .f32 0xFF800000#32)
    (fun i : Fin 128 => Scalar.select (z (ix3 r b i)) (l (ix3 r b i)) (Ideal.ofBits .f32 0xFF800000#32)) := by pointwise [lmaxRaw]
/-- The least logarithm of a tile, at an index. -/
theorem lminRaw_at : lminRaw z l (ix2 r b) = Finset.univ.fold min (Ideal.ofBits .f32 0x7F800000#32)
    (fun i : Fin 128 => Scalar.select (z (ix3 r b i)) (l (ix3 r b i)) (Ideal.ofBits .f32 0x7F800000#32)) := by pointwise [lminRaw]
/-- The upper end, at an index. -/
theorem lmaxOf_at : lmaxOf h hi (ix2 r b) = Scalar.select (h (ix2 r b)) (hi (ix2 r b)) 0 := by pointwise [lmaxOf]
/-- The lower end, at an index. -/
theorem lminOf_at : lminOf h hi lo (ix2 r b)
    = Scalar.select (h (ix2 r b)) (max (lo (ix2 r b)) (hi (ix2 r b) - Ideal.ofBits .f32 0x41B17218#32)) 0 := by pointwise [lminOf]
/-- Levels per unit of logarithm, at an index. -/
theorem invOf_at : invOf w (ix2 r b)
    = if 0 < w (ix2 r b) then Ideal.div (Ideal.ofBits .f32 0x42FC0000#32) (if 0 < w (ix2 r b) then w (ix2 r b) else 1) else 0 := by pointwise [invOf]
/-- The step of one level, at an index. -/
theorem stepOf_at : stepOf w (ix2 r b) = Ideal.div (w (ix2 r b)) (Ideal.ofBits .f32 0x42FC0000#32) := by pointwise [stepOf]
/-- A per-tile number beside an element, at an index. -/
theorem spread_at : spread w (ix3 r b i) = w (ix2 r b) := by pointwise [spread]
/-- The level of an element, at an index. -/
theorem quantOf_at : quantOf l q s (ix3 r b i) = min (((126#32).toInt : ℝ) : EReal) (max (((0#32).toInt : ℝ) : EReal)
    (Ideal.liftRound Ideal.roundHalfEven ((l (ix3 r b i) - q (ix3 r b i)) * s (ix3 r b i)))) := by pointwise [quantOf]; rfl
/-- The code of an element, at an index. -/
theorem codeOf_at : codeOf z v q (ix3 r b i) = BitVec.setWidth 8 (Scalar.select (z (ix3 r b i))
    (IntOp.addi (IntOp.addi (FloatOps.fptosi (F := Ideal) (φ := .f32) 32 (q (ix3 r b i))) 1#32)
      (IntOp.muli 128#32 (BitVec.setWidth 32 (BitVec.ofBool (decide (v (ix3 r b i) < 0)))))) 0#32) := by pointwise [codeOf]
/-- The codes laid out as the argument, at an index. -/
theorem flat8_at : flat8 k8 (ix2 r j) = k8 (ix3 r ⟨j.val / 128, by omega⟩ ⟨j.val % 128, by omega⟩) := by pointwise [flat8]
/-- The codes read back as words, at an index. -/
theorem wordOf_at : wordOf (flat8 k8) (ix3 r b i) = BitVec.setWidth 32 (k8 (ix3 r b i)) := by pointwise [wordOf, flat8]
/-- The low seven bits of a code, at an index. -/
theorem low7_at : low7 k (ix3 r b i) = IntOp.andi (k (ix3 r b i)) 127#32 := by pointwise [low7]
/-- The decoded magnitude, at an index. -/
theorem magOf_at : magOf l s k (ix3 r b i) = Ideal.exp (l (ix3 r b i)
    + FloatOps.sitofp (F := Ideal) .f32 (IntOp.subi (k (ix3 r b i)) 1#32) * s (ix3 r b i)) := by pointwise [magOf]
/-- The decoded element, at an index. -/
theorem decOf_at : decOf u k g (ix3 r b i) = Scalar.select (IntOp.cmpi .eq (k (ix3 r b i)) 0#32) 0
    (Scalar.select (IntOp.cmpi .eq (IntOp.shrsi .host (u (ix3 r b i)) 7#32) 1#32) (-g (ix3 r b i)) (g (ix3 r b i))) := by pointwise [decOf]
/-- The decoded elements laid out as the argument, at an index. -/
theorem flat16_at : flat16 g (ix2 r j) = g (ix3 r ⟨j.val / 128, by omega⟩ ⟨j.val % 128, by omega⟩) := by pointwise [flat16]

/-- The range's width, at an index. -/
theorem subf_at (a : FVec Ideal S8192x40 .f32) : subf hi a (ix2 r b) = hi (ix2 r b) - a (ix2 r b) := rfl

end Stages

end Cert.Proof.RefStage

end
-- ==== Proof.RefTile.lean ====
/- The reference's composed values read at an index, from its stages. -/
module

public import proofs.«01_k».proof.Proof.RefStage

@[expose] public section

set_option maxRecDepth 16384

noncomputable section

namespace Cert.Proof.RefTile

open Cert.ReferenceIdeal Cert.ReferenceIdeal.Gen Cert.Proof.RefTerm Cert.Proof.RefStage
open Idealize.ShloMosaic Idealize.ShloMosaic.TcCoe Idealize.SL.Sem

variable (v : FVec Ideal S8192x40x128 .f32) (r : Fin 8192) (b : Fin 40) (i : Fin 128)

/-- One tile of a row. -/
abbrev tileOf : Fin 128 → EReal := fun i => v (ix3 r b i)

/-- The reference's logarithm of an element, as the tile's. -/
theorem logs_nz_at : logs (nz v) v (ix3 r b i) = Tile.rLog (v (ix3 r b i)) :=
  (logs_at _ _ r b i).trans (by rw [nz_at]; rfl)

/-- Whether a tile holds a nonzero element, as the tile's. -/
theorem has_nz_at : has (nz v) (ix2 r b) = Tile.rHas (tileOf v r b) :=
  (has_at _ r b).trans (congrArg (Finset.univ.fold IntOp.ori 0#1) (funext fun i => nz_at v r b i))

/-- The greatest logarithm, as the tile's. -/
theorem hi_at : lmaxRaw (nz v) (logs (nz v) v) (ix2 r b) = Tile.rHi (tileOf v r b) :=
  (lmaxRaw_at _ _ r b).trans (congrArg (Finset.univ.fold max (Ideal.ofBits .f32 0xFF800000#32))
    (funext fun i => by rw [nz_at, logs_nz_at]))

/-- The least logarithm, as the tile's. -/
theorem lo_at : lminRaw (nz v) (logs (nz v) v) (ix2 r b) = Tile.rLo (tileOf v r b) :=
  (lminRaw_at _ _ r b).trans (congrArg (Finset.univ.fold min (Ideal.ofBits .f32 0x7F800000#32))
    (funext fun i => by rw [nz_at, logs_nz_at]))

/-- The reference's upper end is the tile's. -/
theorem lmax_at : lmax v (ix2 r b) = Tile.lmax (tileOf v r b) :=
  (lmaxOf_at _ _ r b).trans ((by rw [has_nz_at, hi_at]; rfl : _ = Tile.rLmax (tileOf v r b)).trans (Tile.rLmax_eq _))

/-- The reference's lower end is the tile's. -/
theorem lmin_at : lmin v (ix2 r b) = Tile.lmin (tileOf v r b) :=
  (lminOf_at _ _ _ r b).trans ((by rw [has_nz_at, hi_at, lo_at]; rfl : _ = Tile.rLmin (tileOf v r b)).trans (Tile.rLmin_eq _))

/-- The width of a tile's range. -/
theorem width_at : subf (lmax v) (lmin v) (ix2 r b) = Tile.lmax (tileOf v r b) - Tile.lmin (tileOf v r b) :=
  (subf_at _ r b _).trans (by rw [lmax_at, lmin_at])

/-- The reference's level. -/
theorem quant_at : quant v (ix3 r b i) = Tile.level (Tile.lmin (tileOf v r b)) (Tile.lmax (tileOf v r b)) (v (ix3 r b i)) :=
  (quantOf_at _ _ _ r b i).trans (by
    rw [logs_nz_at, spread_at, spread_at, lmin_at, invOf_at, width_at, Tile.rLog, Tile.select_decide]; rfl)

/-- The reference's code is the tile's. -/
theorem code_at : code v (ix3 r b i) = Tile.code (Tile.lmin (tileOf v r b)) (Tile.lmax (tileOf v r b)) (v (ix3 r b i)) :=
  (codeOf_at _ _ _ r b i).trans (by rw [nz_at, quant_at]; exact Tile.rCode_eq _ _ _)

/-- The reference's decoded element is the tile's. -/
theorem dec_at : decTiles v (ix3 r b i) = Tile.dec (Tile.lmin (tileOf v r b)) (Tile.lmax (tileOf v r b)) (v (ix3 r b i)) :=
  (decOf_at _ _ _ r b i).trans (by
    rw [magOf_at, spread_at, spread_at, stepOf_at, width_at, lmin_at, low7_at, wordOf_at, code_at]
    exact Tile.rDec_code _ _ _)

end Cert.Proof.RefTile

end
-- ==== Proof.Take.lean ====
/- The reference's gather of rows: at rows in range it is the plain choice of rows. -/
module

public import proofs.«01_k».proof.Proof.RefTerm
public import Idealize.ShloMosaic.Lib.ReduceAll
public import Idealize.ShloMosaic.Lib.Routing.Ops

@[expose] public section

set_option maxRecDepth 16384

noncomputable section

namespace Cert.Proof.Take

open Cert.ReferenceIdeal Cert.ReferenceIdeal.Gen
open Idealize.ShloMosaic Idealize.ShloMosaic.TcCoe Idealize.SL.Sem

variable {F : FTy → Type} [FloatOps F]

/-- The row numbers as the gather takes them: a negative one counted from the end. -/
def rowsOf (r : IVec S16384 32) : IVec S16384x1 32 :=
  broadcastInDim S16384x1 ![0] bcast_S16384_S16384x1_0 (select (cmpi .slt r (broadcastInDim S16384 ![] bcast_S_S16384 (constantI S_ 32 0#32))) (addi r (broadcastInDim S16384 ![] bcast_S_S16384 (constantI S_ 32 8192#32))) r)

/-- Which row numbers are in range. -/
def okOf (i : IVec S16384x1 32) : IVec S16384 1 :=
  Host.reduce IntOp.andi (andi (cmpi .sge i (broadcastInDim S16384x1 ![] bcast_S_S16384x1 (constantI S_ 32 0#32))) (cmpi .sle i (broadcastInDim S16384x1 ![0, 1] bcast_S1x1_S16384x1_0_1 (broadcastInDim S1x1 ![1] bcast_S1_S1x1_1 (constantI S1 32 8191#32))))) (constantI S_ 1 1#1) reducesTo_S16384x1_S16384_d1 h_S_

/-- The gathered rows, a fill value where the row number is out of range. -/
def takeOf (k : IVec S16384 1) (d : FVec F S8192x5120 .bf16) (i : IVec S16384x1 32) : FVec F S16384x5120 .bf16 :=
  select (broadcastInDim S16384x5120 ![0] bcast_S16384_S16384x5120_0 k) (Host.gather gather_S8192x5120_S16384x1_S16384x5120_1_0_n_n_0_1_15120 d i) (broadcastInDim S16384x5120 ![] bcast_S_S16384x5120 (constant S_ .bf16 0x7FC0#16))

/-- The gather of rows as the reference computes it. -/
def take (d : FVec F S8192x5120 .bf16) (r : IVec S16384 32) : FVec F S16384x5120 .bf16 := takeOf (okOf (rowsOf r)) d (rowsOf r)

variable (r : IVec S16384 32) (h : ∀ j, (r j).toNat < 8192)

/-- A row number in range is the same word signed or unsigned. -/
theorem toInt_of_lt (w : BitVec 32) (h : w.toNat < 8192) : w.toInt = (w.toNat : Int) := by
  rw [BitVec.toInt_eq_toNat_cond, if_pos (by omega)]

include h in
/-- Row numbers in range are taken as they are. -/
theorem rowsOf_at (i : Fin 16384) (o : Fin 1) : rowsOf r (ix2 i o) = r (ix1 i) := by
  have hz : IntOp.cmpi .slt (r (ix1 i)) 0#32 = 0#1 := ValueIdx.eq_zero_of_ne_one fun e => by
    have := IntOp.cmpi_slt.1 e
    rw [toInt_of_lt _ (h _), show (0#32 : BitVec 32).toInt = 0 by decide] at this
    omega
  have e : rowsOf r (ix2 i o) = Scalar.select (IntOp.cmpi .slt (r (ix1 i)) 0#32) (IntOp.addi (r (ix1 i)) 8192#32) (r (ix1 i)) := by
    pointwise [rowsOf]
  rw [e, hz]; rfl

include h in
/-- Every row number in range passes the test. -/
theorem okOf_at (j : S16384.Idx) : okOf (rowsOf r) j = 1#1 := by
  refine Host.reduce_andi_one _ _ _ _ _ rfl fun y => ?_
  obtain ⟨i, o, rfl⟩ : ∃ (i : Fin 16384) (o : Fin 1), y = ix2 i o := ⟨y 0, y 1, eq_ix2 y⟩
  have e := toInt_of_lt _ (h (ix1 i))
  have hl := h (ix1 i)
  refine IntOp.andi_eq_one.2 ⟨IntOp.cmpi_sge.2 ?_, IntOp.cmpi_sle.2 ?_⟩
  · rw [rowsOf_at r h, e]
    show (0#32 : BitVec 32).toInt ≤ _
    rw [show (0#32 : BitVec 32).toInt = 0 by decide]; omega
  · rw [rowsOf_at r h, e]
    show _ ≤ (8191#32 : BitVec 32).toInt
    rw [show (8191#32 : BitVec 32).toInt = 8191 by decide]; omega

include h in
/-- The reference's gather at rows in range: row `i` is row `r i` of the operand. -/
theorem take_at (d : FVec F S8192x5120 .bf16) (i : Fin 16384) (j : Fin 5120) : take d r (ix2 i j) = d (ix2 ⟨(r (ix1 i)).toNat, h _⟩ j) := by
  have g := Idealize.ShloMosaic.Routing.gather_row gather_S8192x5120_S16384x1_S16384x5120_1_0_n_n_0_1_15120 rfl rfl rfl rfl rfl d (rowsOf r) i j ⟨(r (ix1 i)).toNat, h _⟩
    ((rowsOf_at r h i 0).trans (by simp)) (by decide)
  refine Eq.trans ?_ g
  unfold take takeOf
  have k : broadcastInDim S16384x5120 ![0] bcast_S16384_S16384x5120_0 (okOf (rowsOf r)) (ix2 i j) = 1#1 := okOf_at r h _
  rw [ValueIdx.select_apply, k]; rfl

end Cert.Proof.Take

end
-- ==== Proof.Value.lean ====
/- The claims' values: what the kernel leaves in its four result arrays and what the reference computes are the same
   functions of the arguments, the quantised results tile by tile and the gathered rows row by row. -/
module

public import proofs.«01_k».proof.Defs
public import proofs.«01_k».proof.Proof.Gen.ReferenceIdeal.Run
public import proofs.«01_k».proof.Proof.EndK
public import proofs.«01_k».proof.Proof.GatArr
public import proofs.«01_k».proof.Proof.EncOut
public import proofs.«01_k».proof.Proof.RefTile
public import proofs.«01_k».proof.Proof.Take

@[expose] public section

set_option maxRecDepth 16384

noncomputable section

namespace Cert.Proof.Value

open Idealize.ShloMosaic Idealize.ShloMosaic.TcCoe Idealize.SL.Sem
open Idealize.ShloMosaic (ix1 ix2)

/-! ## The results as functions of the argument -/

/-- The argument array. -/
abbrev Arg : Type := FVec Ideal Cert.KernelIdeal.S8192x5120 .bf16

/-- Tile `b` of row `r` of the argument. -/
abbrev arrTile (x : Arg) (r : Fin 8192) (b : Fin 40) : Fin 128 → EReal := fun l => x (ix2 r ⟨b.val * 128 + l.val, by omega⟩)

/-- The lower ends. -/
def aLmin (x : Arg) : FVec Ideal Cert.KernelIdeal.S8192x40 .f32 := fun y => Tile.lmin (arrTile x (y 0) (y 1))
/-- The upper ends. -/
def aLmax (x : Arg) : FVec Ideal Cert.KernelIdeal.S8192x40 .f32 := fun y => Tile.lmax (arrTile x (y 0) (y 1))
/-- The codes. -/
def aCode (x : Arg) : IVec Cert.KernelIdeal.S8192x5120 8 := fun y =>
  Tile.code (Tile.lmin (arrTile x (y 0) (EncBlock.tileIx (y 1)))) (Tile.lmax (arrTile x (y 0) (EncBlock.tileIx (y 1)))) (x y)
/-- The decoded elements. -/
def aDec (x : Arg) : Arg := fun y =>
  Tile.dec (Tile.lmin (arrTile x (y 0) (EncBlock.tileIx (y 1)))) (Tile.lmax (arrTile x (y 0) (EncBlock.tileIx (y 1)))) (x y)

/-! ## The kernel's arrays -/

section Kernel

open Cert.KernelIdeal Cert.KernelIdeal.Gen Cert.Proof.I

variable (m : (ℓ : Loc nD τ sig) → Buf (Elt Ideal) ℓ) (c : Dev nD)

/-- The argument's block moves with the grid point. -/
theorem idx0 : ∀ t : Fin cfg0.N, win0_0.index t = ![t.val, 0] := (by decide +kernel : ∀ t : Fin grid0.N, _)
/-- The same of the codes. -/
theorem idx1 : ∀ t : Fin cfg0.N, win0_1.index t = ![t.val, 0] := (by decide +kernel : ∀ t : Fin grid0.N, _)
/-- The same of the lower ends. -/
theorem idx2 : ∀ t : Fin cfg0.N, win0_2.index t = ![t.val, 0] := (by decide +kernel : ∀ t : Fin grid0.N, _)
/-- The same of the upper ends. -/
theorem idx3 : ∀ t : Fin cfg0.N, win0_3.index t = ![t.val, 0] := (by decide +kernel : ∀ t : Fin grid0.N, _)
/-- The same of the decoded elements. -/
theorem idx4 : ∀ t : Fin cfg0.N, win0_4.index t = ![t.val, 0] := (by decide +kernel : ∀ t : Fin grid0.N, _)

/-- A block of the argument, at an index. -/
theorem iblk_at (t : Fin cfg0.N) (r : Fin 256) (j : Fin 5120) (R : Fin 8192) (h : R.val = t.val * 256 + r.val) :
    iblk (fun c b => B0 m c b) c 0 t (ix2 r j) = m ((c.tc : Thread nD τ).loc main_arg0) (ix2 R j) := by
  show iblk (fun c b => B0 m c b) c 0 t (ix2 r j) = B0 m c main_arg0 (ix2 R j)
  blk_ext [iblk, idx0]

section Blocks

variable {x0 : Vec Ideal S256x5120 .bf16} {X : Arg} {n : ℕ}

/-- A tile of a block of the argument is the argument's tile. -/
theorem blkTile_eq (h : ∀ (r : Fin 256) (j : Fin 5120) (R : Fin 8192), R.val = n * 256 + r.val → x0 (ix2 r j) = X (ix2 R j))
    (r : Fin 256) (R : Fin 8192) (hR : R.val = n * 256 + r.val) (b b' : Fin 40) (hb : b'.val = b.val) :
    EncBlock.blkTile x0 r b = arrTile X R b' := by
  obtain rfl : b' = b := Fin.ext hb
  exact funext fun l => h r _ R hR

/-- A block of lower ends. -/
theorem bLmin_eq (h : ∀ (r : Fin 256) (j : Fin 5120) (R : Fin 8192), R.val = n * 256 + r.val → x0 (ix2 r j) = X (ix2 R j))
    (y : S256x40.Idx) (z : S8192x40.Idx) (h0 : (z 0).val = n * 256 + (y 0).val) (h1 : (z 1).val = (y 1).val) :
    EncBlock.bLmin x0 y = aLmin X z :=
  congrArg Tile.lmin (blkTile_eq h (y 0) (z 0) h0 (y 1) (z 1) h1)

/-- A block of upper ends. -/
theorem bLmax_eq (h : ∀ (r : Fin 256) (j : Fin 5120) (R : Fin 8192), R.val = n * 256 + r.val → x0 (ix2 r j) = X (ix2 R j))
    (y : S256x40.Idx) (z : S8192x40.Idx) (h0 : (z 0).val = n * 256 + (y 0).val) (h1 : (z 1).val = (y 1).val) :
    EncBlock.bLmax x0 y = aLmax X z :=
  congrArg Tile.lmax (blkTile_eq h (y 0) (z 0) h0 (y 1) (z 1) h1)

/-- An element of a block. -/
theorem elem_eq (h : ∀ (r : Fin 256) (j : Fin 5120) (R : Fin 8192), R.val = n * 256 + r.val → x0 (ix2 r j) = X (ix2 R j))
    (y : S256x5120.Idx) (z : S8192x5120.Idx) (h0 : (z 0).val = n * 256 + (y 0).val) (h1 : (z 1).val = (y 1).val) : x0 y = X z :=
  (congrArg x0 (eq_ix2 y)).trans ((h (y 0) (y 1) (z 0) h0).trans
    (congrArg X (show ix2 (z 0) (y 1) = z from (congrArg (ix2 (z 0)) (Fin.ext h1.symm)).trans (eq_ix2 z).symm)))

/-- A block of codes. -/
theorem bCode_eq (h : ∀ (r : Fin 256) (j : Fin 5120) (R : Fin 8192), R.val = n * 256 + r.val → x0 (ix2 r j) = X (ix2 R j))
    (y : S256x5120.Idx) (z : S8192x5120.Idx) (h0 : (z 0).val = n * 256 + (y 0).val) (h1 : (z 1).val = (y 1).val) :
    EncBlock.bCode x0 y = aCode X z := by
  have hb := blkTile_eq h (y 0) (z 0) h0 (EncBlock.tileIx (y 1)) (EncBlock.tileIx (z 1)) (congrArg (· / 128) h1)
  unfold EncBlock.bCode aCode
  rw [hb, elem_eq h y z h0 h1]

/-- A block of decoded elements. -/
theorem bDec_eq (h : ∀ (r : Fin 256) (j : Fin 5120) (R : Fin 8192), R.val = n * 256 + r.val → x0 (ix2 r j) = X (ix2 R j))
    (y : S256x5120.Idx) (z : S8192x5120.Idx) (h0 : (z 0).val = n * 256 + (y 0).val) (h1 : (z 1).val = (y 1).val) :
    EncBlock.bDec x0 y = aDec X z := by
  have hb := blkTile_eq h (y 0) (z 0) h0 (EncBlock.tileIx (y 1)) (EncBlock.tileIx (z 1)) (congrArg (· / 128) h1)
  unfold EncBlock.bDec aDec
  rw [hb, elem_eq h y z h0 h1]

end Blocks

/-- The codes' array after the run. -/
theorem arr1 : (d0 m c).arrAt 1 cfg0.N = aCode (m ((c.tc : Thread nD τ).loc main_arg0)) := by
  refine (d0 m c).arrAt_eq_of_covers 1 _ (by decide +kernel) fun t hf y => ?_
  blk_simp
  rw [after0_1, EncBlock.out_code]
  exact bCode_eq (iblk_at m c t) y _ (by blk_simp [idx1]) (by blk_simp [idx1])

/-- The lower ends' array after the run. -/
theorem arr2 : (d0 m c).arrAt 2 cfg0.N = aLmin (m ((c.tc : Thread nD τ).loc main_arg0)) := by
  refine (d0 m c).arrAt_eq_of_covers 2 _ (by decide +kernel) fun t hf y => ?_
  blk_simp
  rw [after0_2, EncBlock.out_lmin]
  exact bLmin_eq (iblk_at m c t) y _ (by blk_simp [idx2]) (by blk_simp [idx2])

/-- The upper ends' array after the run. -/
theorem arr3 : (d0 m c).arrAt 3 cfg0.N = aLmax (m ((c.tc : Thread nD τ).loc main_arg0)) := by
  refine (d0 m c).arrAt_eq_of_covers 3 _ (by decide +kernel) fun t hf y => ?_
  blk_simp
  rw [after0_3, EncBlock.out_lmax]
  exact bLmax_eq (iblk_at m c t) y _ (by blk_simp [idx3]) (by blk_simp [idx3])

/-- The decoded elements' array after the run. -/
theorem arr4 : (d0 m c).arrAt 4 cfg0.N = aDec (m ((c.tc : Thread nD τ).loc main_arg0)) := by
  refine (d0 m c).arrAt_eq_of_covers 4 _ (by decide +kernel) fun t hf y => ?_
  blk_simp
  rw [after0_4, EncBlock.out_dec]
  exact bDec_eq (iblk_at m c t) y _ (by blk_simp [idx4]) (by blk_simp [idx4])

/-- The encoder leaves the codes. -/
theorem B1_v0_0 : B1 m c main_v0_0 = aCode (m ((c.tc : Thread nD τ).loc main_arg0)) :=
  (Pipeline.afterRegion_arr (d0 m c) (B0 m c) arr_inj0 1).trans (arr1 m c)
/-- The encoder leaves the lower ends, -/
theorem B1_v0_1 : B1 m c main_v0_1 = aLmin (m ((c.tc : Thread nD τ).loc main_arg0)) :=
  (Pipeline.afterRegion_arr (d0 m c) (B0 m c) arr_inj0 2).trans (arr2 m c)
/-- the upper ends, -/
theorem B1_v0_2 : B1 m c main_v0_2 = aLmax (m ((c.tc : Thread nD τ).loc main_arg0)) :=
  (Pipeline.afterRegion_arr (d0 m c) (B0 m c) arr_inj0 3).trans (arr3 m c)
/-- and the decoded elements. -/
theorem B1_v0_3 : B1 m c main_v0_3 = aDec (m ((c.tc : Thread nD τ).loc main_arg0)) :=
  (Pipeline.afterRegion_arr (d0 m c) (B0 m c) arr_inj0 4).trans (arr4 m c)

/-- The codes are not an array of the gather. -/
theorem not_arr1_v0_0 : ∀ w, main_v0_0 ≠ Pipeline.arrRef spec1 w := by decide
/-- The lower ends are not an array of the gather. -/
theorem not_arr1_v0_1 : ∀ w, main_v0_1 ≠ Pipeline.arrRef spec1 w := by decide
/-- The upper ends are not an array of the gather. -/
theorem not_arr1_v0_2 : ∀ w, main_v0_2 ≠ Pipeline.arrRef spec1 w := by decide

/-- The codes stay through the gather. -/
theorem B2_v0_0 : B2 m c main_v0_0 = aCode (m ((c.tc : Thread nD τ).loc main_arg0)) :=
  (Pipeline.afterRegion_of_not_arr (d1 m c) (B1 m c) (b := main_v0_0) not_arr1_v0_0).trans (B1_v0_0 m c)
/-- The lower ends stay through the gather. -/
theorem B2_v0_1 : B2 m c main_v0_1 = aLmin (m ((c.tc : Thread nD τ).loc main_arg0)) :=
  (Pipeline.afterRegion_of_not_arr (d1 m c) (B1 m c) (b := main_v0_1) not_arr1_v0_1).trans (B1_v0_1 m c)
/-- The upper ends stay through the gather. -/
theorem B2_v0_2 : B2 m c main_v0_2 = aLmax (m ((c.tc : Thread nD τ).loc main_arg0)) :=
  (Pipeline.afterRegion_of_not_arr (d1 m c) (B1 m c) (b := main_v0_2) not_arr1_v0_2).trans (B1_v0_2 m c)
/-- The gathered rows. -/
theorem B2_v1 (h : ∀ j, (m ((c.tc : Thread nD τ).loc main_arg1) j : BitVec 32).toNat < 8192) :
    B2 m c main_v1 = GatArr.gathered (aDec (m ((c.tc : Thread nD τ).loc main_arg0))) (m ((c.tc : Thread nD τ).loc main_arg1)) h := by
  obtain rfl : c = 0 := Subsingleton.elim _ _
  have e := GatArr.arr (adm1 m) (fun c b => B1 m c b) 0 h
  exact (Pipeline.afterRegion_arr (d1 m 0) (B1 m 0) arr_inj1 1).trans (e.trans
    (congrArg (fun d : Arg => GatArr.gathered d (m (((0 : Dev nD).tc : Thread nD τ).loc main_arg1)) h) (B1_v0_3 m 0)))

/-- Each result is among the buffers the run speaks of: the codes, -/
theorem v0_0_mem : (main_v0_0 : DevRef τ sig) ∈ Pipeline.ucRefs τ sig := Finset.mem_filter.mpr ⟨StableHlo.devRef_mem_tcRefs main_v0_0, by decide⟩
/-- the lower ends, -/
theorem v0_1_mem : (main_v0_1 : DevRef τ sig) ∈ Pipeline.ucRefs τ sig := Finset.mem_filter.mpr ⟨StableHlo.devRef_mem_tcRefs main_v0_1, by decide⟩
/-- the upper ends, -/
theorem v0_2_mem : (main_v0_2 : DevRef τ sig) ∈ Pipeline.ucRefs τ sig := Finset.mem_filter.mpr ⟨StableHlo.devRef_mem_tcRefs main_v0_2, by decide⟩
/-- and the gathered rows. -/
theorem v1_mem : (main_v1 : DevRef τ sig) ∈ Pipeline.ucRefs τ sig := Finset.mem_filter.mpr ⟨StableHlo.devRef_mem_tcRefs main_v1, by decide⟩

/-- The kernel's run, its results the functions of the arguments. -/
theorem kernel_run (ρ : Dev nD → PrngReg) (h : ∀ (c : Dev nD) j, (m ((c.tc : Thread nD τ).loc main_arg1) j : BitVec 32).toNat < 8192) :
    θ_run (defs (F := Ideal)) (onTc (τ := τ) (main (F := Ideal))) ⟨m, fun _ => 0, ρ⟩ fun r => ∀ c : Dev nD,
      r.2.mem ((c.tc : Thread nD τ).loc main_v1) = GatArr.gathered (aDec (m ((c.tc : Thread nD τ).loc main_arg0))) (m ((c.tc : Thread nD τ).loc main_arg1)) (h c)
      ∧ r.2.mem ((c.tc : Thread nD τ).loc main_v0_0) = aCode (m ((c.tc : Thread nD τ).loc main_arg0))
      ∧ r.2.mem ((c.tc : Thread nD τ).loc main_v0_1) = aLmin (m ((c.tc : Thread nD τ).loc main_arg0))
      ∧ r.2.mem ((c.tc : Thread nD τ).loc main_v0_2) = aLmax (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r e c => ⟨(e.1 c main_v1 v1_mem).trans (B2_v1 m c (h c)), (e.1 c main_v0_0 v0_0_mem).trans (B2_v0_0 m c),
    (e.1 c main_v0_1 v0_1_mem).trans (B2_v0_1 m c), (e.1 c main_v0_2 v0_2_mem).trans (B2_v0_2 m c),
    (e.1 c main_arg0 arg0_mem).trans (B2_arg0 m c), (e.1 c main_arg1 arg1_mem).trans (B2_arg1 m c)⟩)
    (run_main m ρ (chk m (h 0)))

end Kernel

/-! ## The reference's arrays -/

/-- A tile of the tiled argument. -/
theorem tileOf_tiles (x : Arg) (r : Fin 8192) (b : Fin 40) : RefTile.tileOf (RefTerm.tiles x) r b = arrTile x r b :=
  funext fun l => RefStage.tiles_at x r b l

/-- The tiled argument at an element's own tile and lane. -/
theorem tiles_elem (x : Arg) (r : Fin 8192) (j : Fin 5120) :
    RefTerm.tiles x (ix3 r ⟨j.val / 128, by omega⟩ ⟨j.val % 128, by omega⟩) = x (ix2 r j) :=
  (RefStage.tiles_at x r _ _).trans (congrArg (fun k => x (ix2 r k)) (Fin.ext (by show j.val / 128 * 128 + j.val % 128 = j.val; omega)))

/-- The reference's lower ends. -/
theorem ref_lmin (x : Arg) : RefTerm.lmin (RefTerm.tiles x) = aLmin x := funext fun y => by
  obtain ⟨r, b, rfl⟩ : ∃ (r : Fin 8192) (b : Fin 40), y = ix2 r b := ⟨y 0, y 1, eq_ix2 y⟩
  exact (RefTile.lmin_at _ r b).trans (congrArg Tile.lmin (tileOf_tiles x r b))

/-- The reference's upper ends. -/
theorem ref_lmax (x : Arg) : RefTerm.lmax (RefTerm.tiles x) = aLmax x := funext fun y => by
  obtain ⟨r, b, rfl⟩ : ∃ (r : Fin 8192) (b : Fin 40), y = ix2 r b := ⟨y 0, y 1, eq_ix2 y⟩
  exact (RefTile.lmax_at _ r b).trans (congrArg Tile.lmax (tileOf_tiles x r b))

/-- The reference's codes. -/
theorem ref_code (x : Arg) : RefTerm.flat8 (RefTerm.code (RefTerm.tiles x)) = aCode x := funext fun y => by
  obtain ⟨r, j, rfl⟩ : ∃ (r : Fin 8192) (j : Fin 5120), y = ix2 r j := ⟨y 0, y 1, eq_ix2 y⟩
  exact (RefStage.flat8_at _ r j).trans ((RefTile.code_at _ r _ _).trans (by rw [tileOf_tiles, tiles_elem]; rfl))

/-- The reference's decoded elements. -/
theorem ref_dec (x : Arg) : RefTerm.flat16 (RefTerm.decTiles (RefTerm.tiles x)) = aDec x := funext fun y => by
  obtain ⟨r, j, rfl⟩ : ∃ (r : Fin 8192) (j : Fin 5120), y = ix2 r j := ⟨y 0, y 1, eq_ix2 y⟩
  exact (RefStage.flat16_at _ r j).trans ((RefTile.dec_at _ r _ _).trans (by rw [tileOf_tiles, tiles_elem]; rfl))

section Reference

open Cert.ReferenceIdeal

/-- The reference's gathered rows. -/
theorem ref_take (x : Arg) (r : IVec Cert.ReferenceIdeal.S16384 32) (h : ∀ j, (r j).toNat < 8192) :
    Take.take (RefTerm.flat16 (RefTerm.decTiles (RefTerm.tiles x))) r = GatArr.gathered (aDec x) r h := funext fun y => by
  obtain ⟨i, j, rfl⟩ : ∃ (i : Fin 16384) (j : Fin 5120), y = ix2 i j := ⟨y 0, y 1, eq_ix2 y⟩
  rw [ref_dec]
  exact Take.take_at r h (aDec x) i j

variable (m : (ℓ : Loc nD τ sig) → Buf (Elt Ideal) ℓ) (ρ : Dev nD → PrngReg)

/-- The reference's run, its results the functions of the arguments. -/
theorem ref_run (h : ∀ (c : Dev nD) j, (m ((c.tc : Thread nD τ).loc main_arg1) j : BitVec 32).toNat < 8192) :
    θ_run (defs (F := Ideal)) (onTc (τ := τ) (main (F := Ideal))) ⟨m, fun _ => 0, ρ⟩ fun r => ∀ c : Dev nD,
      r.2.mem ((c.tc : Thread nD τ).loc main_v72) = GatArr.gathered (aDec (m ((c.tc : Thread nD τ).loc main_arg0))) (m ((c.tc : Thread nD τ).loc main_arg1)) (h c)
      ∧ r.2.mem ((c.tc : Thread nD τ).loc main_v43) = aCode (m ((c.tc : Thread nD τ).loc main_arg0))
      ∧ r.2.mem ((c.tc : Thread nD τ).loc main_v16) = aLmin (m ((c.tc : Thread nD τ).loc main_arg0))
      ∧ r.2.mem ((c.tc : Thread nD τ).loc main_v12) = aLmax (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r e c => ⟨(e c).1.trans (ref_take (m ((c.tc : Thread nD τ).loc main_arg0)) (m ((c.tc : Thread nD τ).loc main_arg1)) (h c)),
    (e c).2.1.trans (ref_code (m ((c.tc : Thread nD τ).loc main_arg0))),
    (e c).2.2.1.trans (ref_lmin (m ((c.tc : Thread nD τ).loc main_arg0))),
    (e c).2.2.2.1.trans (ref_lmax (m ((c.tc : Thread nD τ).loc main_arg0))),
    (e c).2.2.2.2⟩) (Cert.ReferenceIdeal.Value.run m ρ)

end Reference

end Cert.Proof.Value

end
-- ==== Proof.lean ====
/- The claims about the kernel. -/
module

public import proofs.«01_k».proof.Proof.Value
public import Idealize.ShloMosaic.Lib.Bf16Pair

@[expose] public section

noncomputable section

namespace Cert.Proof

open Idealize.ShloMosaic Idealize.SL.Sem

/-- The kernel runs at bit patterns. -/
theorem frame_bits : quiescent_Kernel (hKernel := Cert.Kernel.Gen.facts) (hPre_rows_in_range := Rows.preFacts) := fun m g hp =>
  K.frame m g (Rows.lt_of_pre _ _ (hp 0))

/-- The kernel runs over the extended reals. -/
theorem frame_ideal : quiescent_KernelIdeal (hKernelIdeal := Cert.KernelIdeal.Gen.facts) (hPre_rows_in_range := Rows.preFacts) := fun m g hp =>
  I.frame m g (Rows.lt_of_pre _ _ (hp 0))

/-- The reference runs. -/
theorem frame_ref : quiescent_ReferenceIdeal (hReferenceIdeal := Cert.ReferenceIdeal.Gen.facts) (hPre_rows_in_range := Rows.preFacts) := fun m g _ =>
  (θ_run _ _ _).mono (fun r h => ⟨fun c => (h c).2.2.2.2, sem_eq_zero_of_no_sems rfl r.2⟩) (Cert.ReferenceIdeal.Value.run m g)

/-- The idealization reads packed words as their two halves. -/
theorem preserves : preserves_Kernel_KernelIdeal :=
  ⟨IdealRules.bf16_pair.statement _ _, IdealRules.bf16_pair.selectZeroStatement _⟩

/-- The kernel computes the reference's four results. -/
theorem algebraic : algebraic_KernelIdeal_ReferenceIdeal (hKernelIdeal := Cert.KernelIdeal.Gen.facts) (hReferenceIdeal := Cert.ReferenceIdeal.Gen.facts)
    (hPre_rows_in_range := Rows.preFacts) := fun m g m' g' hp hm => by
  have h : ∀ (c : Dev Cert.KernelIdeal.nD) j, (m ((c.tc : Thread Cert.KernelIdeal.nD Cert.KernelIdeal.τ).loc Cert.KernelIdeal.main_arg1) j : BitVec 32).toNat < 8192 :=
    fun c => Rows.lt_of_pre _ _ (hp c)
  have h' : ∀ (c : Dev Cert.ReferenceIdeal.nD) j, (m' ((c.tc : Thread Cert.ReferenceIdeal.nD Cert.ReferenceIdeal.τ).loc Cert.ReferenceIdeal.main_arg1) j : BitVec 32).toNat < 8192 :=
    fun c j => (congrArg (fun r : IVec Cert.KernelIdeal.S16384 32 => (r j).toNat) (hm c).2).trans_lt (h c j)
  have hg : ∀ (x x' : Value.Arg) (r r' : IVec Cert.KernelIdeal.S16384 32) (k k'), x' = x → r' = r →
      GatArr.gathered (Value.aDec x') r' k' = GatArr.gathered (Value.aDec x) r k := by rintro x _ r _ k k' rfl rfl; rfl
  exact ⟨_, _, _, _, Value.kernel_run m g h,
    (θ_run _ _ _).mono (fun r e c => ⟨(e c).1.trans (hg _ _ _ _ _ _ (hm c).1 (hm c).2), (e c).2.1.trans (congrArg Value.aCode (hm c).1),
      (e c).2.2.1.trans (congrArg Value.aLmin (hm c).1), (e c).2.2.2.1.trans (congrArg Value.aLmax (hm c).1), (e c).2.2.2.2⟩) (Value.ref_run m' g' h')⟩

/-- Every claim: the three frames, the idealization, and the equality of the four results. -/
theorem claim : Cert.Claim := ⟨Cert.Kernel.Gen.facts, Cert.KernelIdeal.Gen.facts, Cert.ReferenceIdeal.Gen.facts, Rows.preFacts,
  frame_bits, frame_ideal, frame_ref, preserves, algebraic⟩

end Cert.Proof

end
